-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S1000000x16 : Shape := ⟨2, ![1000000, 16]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S1000000x16 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 1000000#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  main_v5
-- ==== Kernel.lean ====
abbrev S1000000x16 : Shape := ⟨2, ![1000000, 16]⟩
abbrev S16384 : Shape := ⟨1, ![16384]⟩
abbrev S128x128 : Shape := ⟨2, ![128, 128]⟩
abbrev S16384x16 : Shape := ⟨2, ![16384, 16]⟩
abbrev S4x128 : Shape := ⟨2, ![4, 128]⟩
abbrev S512x16 : Shape := ⟨2, ![512, 16]⟩
abbrev S_ : Shape := ⟨0, ![]⟩
abbrev S128x16 : Shape := ⟨2, ![128, 16]⟩
abbrev S1x128 : Shape := ⟨2, ![1, 128]⟩
abbrev S128 : Shape := ⟨1, ![128]⟩

abbrev nBuf : Table → Nat
  | .hbm => 4
  | .local .scVector .vmem => 2
  | _ => 0

abbrev bufTy : (tb : Table) → Fin (nBuf tb) → BufTy
  | .hbm, ⟨0, _⟩ => ⟨S1000000x16, .f32⟩
  | .hbm, ⟨1, _⟩ => ⟨S16384, .i32⟩
  | .hbm, ⟨2, _⟩ => ⟨S128x128, .i32⟩
  | .hbm, ⟨3, _⟩ => ⟨S16384x16, .f32⟩
  | .local .scVector .vmem, ⟨0, _⟩ => ⟨S4x128, .i32⟩
  | .local .scVector .vmem, ⟨1, _⟩ => ⟨S512x16, .f32⟩
  | _, _ => ⟨S1000000x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_arg0_scv : Ref sig .scVector := ⟨.hbm, 0, rfl⟩
abbrev main_v0_scv : Ref sig .scVector := ⟨.hbm, 2, rfl⟩
abbrev main_v1_scv : Ref sig .scVector := ⟨.hbm, 3, rfl⟩
abbrev cc0_scratch0 : Ref sig .scVector := ⟨.vmem, 0, rfl⟩
abbrev cc0_scratch1 : Ref sig .scVector := ⟨.vmem, 1, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c4_i32 : BitVec 32 := 4#32
  let v3 : BitVec 32 := Scalar.muli v1 c4_i32
  let c0_i32_42_r0 : BitVec 32 := 0#32
  ![v3.toNat, 0]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  let c0_i32_42_r1 : BitVec 32 := 0#32
  ![v2.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1000000x16 : Shape := ⟨2, ![1000000, 16]⟩
abbrev S16384 : Shape := ⟨1, ![16384]⟩
abbrev S_ : Shape := ⟨0, ![]⟩
abbrev S16384x1 : Shape := ⟨2, ![16384, 1]⟩
abbrev S1 : Shape := ⟨1, ![1]⟩
abbrev S1x1 : Shape := ⟨2, ![1, 1]⟩
abbrev S16384x16 : Shape := ⟨2, ![16384, 16]⟩

abbrev nBuf : Space → Nat
  | .hbm => 25
  | .vmem => 0
  | .smem => 0
  | _ => 0

abbrev bufTy : (tb : Table) → Fin (tcTables nBuf tb) → BufTy
  | .hbm, ⟨0, _⟩ => ⟨S1000000x16, .f32⟩
  | .hbm, ⟨1, _⟩ => ⟨S16384, .i32⟩
  | .hbm, ⟨2, _⟩ => ⟨S_, .i32⟩
  | .hbm, ⟨3, _⟩ => ⟨S16384, .i32⟩
  | .hbm, ⟨4, _⟩ => ⟨S16384, .i1⟩
  | .hbm, ⟨5, _⟩ => ⟨S_, .i32⟩
  | .hbm, ⟨6, _⟩ => ⟨S16384, .i32⟩
  | .hbm, ⟨7, _⟩ => ⟨S16384, .i32⟩
  | .hbm, ⟨8, _⟩ => ⟨S16384, .i32⟩
  | .hbm, ⟨9, _⟩ => ⟨S16384x1, .i32⟩
  | .hbm, ⟨10, _⟩ => ⟨S1, .i32⟩
  | .hbm, ⟨11, _⟩ => ⟨S_, .i32⟩
  | .hbm, ⟨12, _⟩ => ⟨S16384x1, .i32⟩
  | .hbm, ⟨13, _⟩ => ⟨S16384x1, .i1⟩
  | .hbm, ⟨14, _⟩ => ⟨S1x1, .i32⟩
  | .hbm, ⟨15, _⟩ => ⟨S16384x1, .i32⟩
  | .hbm, ⟨16, _⟩ => ⟨S16384x1, .i1⟩
  | .hbm, ⟨17, _⟩ => ⟨S16384x1, .i1⟩
  | .hbm, ⟨18, _⟩ => ⟨S_, .i1⟩
  | .hbm, ⟨19, _⟩ => ⟨S16384, .i1⟩
  | .hbm, ⟨20, _⟩ => ⟨S16384x16, .f32⟩
  | .hbm, ⟨21, _⟩ => ⟨S16384x16, .i1⟩
  | .hbm, ⟨22, _⟩ => ⟨S_, .f32⟩
  | .hbm, ⟨23, _⟩ => ⟨S16384x16, .f32⟩
  | .hbm, ⟨24, _⟩ => ⟨S16384x16, .f32⟩
  | _, _ => ⟨S1000000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Proof.Values.lean ====
/-
  WHAT THE KERNEL COMPUTES, as a function of its two arguments.

  `gathered tab ids` is row `ids k` of the table at row `k`. The row a word names is taken modulo the table's height, so
  that it is a row whatever the word is; of a word below the height it is the word itself.
-/
module

public import proofs.«01_k».proof.Defs
public import Idealize.ShloMosaic.Lib.ValueIdx
public import Idealize.ShloMosaic.PureOps

@[expose] public section

noncomputable section

namespace Cert.Proof.Values

open Cert.KernelIdeal
open Idealize.ShloMosaic
open Idealize.ShloMosaic.ValueIdx (ix1 ix2 eq_ix2)

/-- The row of the table a word names. -/
def rowOfWord (w : BitVec 32) : Fin 1000000 := ⟨w.toNat % 1000000, Nat.mod_lt _ (by decide)⟩

/-- A word below the table's height names the row it counts. -/
theorem rowOfWord_val {w : BitVec 32} (h : w.toNat < 1000000) : (rowOfWord w).val = w.toNat := Nat.mod_eq_of_lt h

/-- The rows of `tab` that `ids` names, in order. -/
def gathered {α : Type} (tab : S1000000x16.Idx → α) (ids : S16384.Idx → BitVec 32) : S16384x16.Idx → α :=
  fun x => tab (ix2 (rowOfWord (ids (ix1 (x 0)))) (x 1))

/-- The index list read as 128 rows of 128: entry `(i, j)` is entry `128 i + j` of the list. -/
theorem reshaped_at {α : Type} (ids : S16384.Idx → α) (h : S16384.ShapeCasts S128x128) (i j : Fin 128) :
    shapeCast S128x128 ids h (ix2 i j) = ids (ix1 ⟨128 * i.val + j.val, by omega⟩) := by
  unfold shapeCast
  congr 1
  refine Shape.reshapeEquiv_eq_of_rowMajor h ?_
  rw [Shape.rowMajor_val_one, Shape.rowMajor_val_two]
  show 128 * i.val + j.val = i.val * 128 + j.val
  omega

end Cert.Proof.Values

end
-- ==== Proof.Common.lean ====
/-
  THE LAUNCH, AS THE PROOF SEES IT: the program's configuration, the arrays, and the share of them each of the
  thirty-two tiles works on.

  Tile `(c, s)` — SparseCore `c`, vector subcore `s` — is number `2 s + c`. It reads four rows of the index array (128
  indices each) and writes 512 rows of the output; every tile reads the whole table, so each holds one of thirty-two
  pieces of the table's share. A tile's rows of both arrays are one part of a cut into 32 equal parts along the first
  axis. What a tile brings back is stated with its value from the start: its rows of the output hold `result`, the
  gathered rows.

  The memory `m` is the one the program starts from, over any float format.
-/
module

public import proofs.«01_k».proof.Defs
public import proofs.«01_k».proof.Proof.Values
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Common

open Cert.KernelIdeal Cert.KernelIdeal.Gen
open Cert.Proof.Values

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx (ix1 ix2)

variable {F : FTy → Type}

/-! ## The configuration -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The call runs on two SparseCores, -/
theorem nCore_zero : (K (F := F)).nCore 0 = 2 := rfl
/-- and on sixteen vector subcores of each. -/
theorem nSub_zero : (K (F := F)).nSub 0 = 16 := rfl

/-- The launch's semaphores are told apart and none is scoped; no buffer of a SparseCore is shared between tasks. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The arrays -/

variable (m : (ℓ : Loc nD τ sig) → Buf (Elt F) ℓ) (ρ : Dev nD → PrngReg)

/-- The table, the index list, the index list as 128 rows of 128, the output. -/
abbrev tLoc (d : Dev nD) : Loc nD τ sig := (SparseCore.T d).loc main_arg0
abbrev aLoc (d : Dev nD) : Loc nD τ sig := (SparseCore.T d).loc main_arg1
abbrev iLoc (d : Dev nD) : Loc nD τ sig := (SparseCore.T d).loc main_v0
abbrev oLoc (d : Dev nD) : Loc nD τ sig := (SparseCore.T d).loc main_v1

abbrev tM : Memref sig .scVector .hbm S1000000x16 .f32 := Memref.whole main_arg0_scv
abbrev iM : Memref sig .scVector .hbm S128x128 .i32 := Memref.whole main_v0_scv
abbrev oM : Memref sig .scVector .hbm S16384x16 .f32 := Memref.whole main_v1_scv
/-- A tile's scratch: four rows of indices, 512 gathered rows. -/
abbrev sM : Memref sig .scVector .vmem S4x128 .i32 := Memref.whole cc0_scratch0
abbrev rM : Memref sig .scVector .vmem S512x16 .f32 := Memref.whole cc0_scratch1

/-- The index list as 128 rows of 128. -/
def ids (d : Dev nD) : Buf (Elt F) (iLoc d) := shapeCast S128x128 (m (aLoc d)) shapeCasts_S16384_S128x128

/-- The rows of the table the index list names: what the output ends holding. -/
def result (d : Dev nD) : Buf (Elt F) (oLoc d) := gathered (α := Elt F .f32) (m (tLoc d)) (m (aLoc d))

/-- What the proof asks of the starting memory: every index is a row of the table. -/
def InRange : Prop := ∀ (d : Dev nD) (j : S16384.Idx), (m (aLoc d) j : BitVec 32).toNat < 1000000

/-! ## A tile's part of each array -/

theorem idiv : 32 ∣ S128x128.size 0 := ⟨4, rfl⟩
theorem odiv : 32 ∣ S16384x16.size 0 := ⟨512, rfl⟩
abbrev irow (w : Fin 32) : Rect S128x128 := Rect.part (s := S128x128) (a₀ := 0) idiv w
abbrev orow (w : Fin 32) : Rect S16384x16 := Rect.part (s := S16384x16) (a₀ := 0) odiv w

/-- Tile `(c, s)` is number `2 s + c`. -/
def tileNo : Fin 2 × Fin 16 ≃ Fin 32 := (Equiv.prodComm _ _).trans finProdFinEquiv

theorem tileNo_val (c : Fin 2) (s : Fin 16) : (tileNo (c, s)).val = c.val + 2 * s.val := rfl

abbrev iPts (d : Dev nD) : sProp 𝕄 := iLoc d ↦{fullShare} ids m d
abbrev tPts (d : Dev nD) : sProp 𝕄 := tLoc d ↦{fullShare} m (tLoc d)
abbrev oPts (d : Dev nD) (f : Buf (Elt F) (oLoc d)) : sProp 𝕄 := oLoc d ↦{fullShare} f

/-- A tile's piece of the table's share. -/
abbrev tq (w : Fin 32) : PosShare TreeShare := pieceOf fullShare 32 (by decide) w
abbrev iRowPts (d : Dev nD) (w : Fin 32) : sProp 𝕄 := iLoc d ↦[(irow w).set]{fullShare} ids m d
abbrev tShPts (d : Dev nD) (w : Fin 32) : sProp 𝕄 := tLoc d ↦{tq w} m (tLoc d)
abbrev oRowPts (d : Dev nD) (w : Fin 32) (f : Buf (Elt F) (oLoc d)) : sProp 𝕄 := oLoc d ↦[(orow w).set]{fullShare} f

/-- What tile `w` takes with it: its rows of the indices, a share of the table, its rows of the output at `f`. -/
abbrev tileRes (f : (d : Dev nD) → Buf (Elt F) (oLoc d)) (d : Dev nD) (w : Fin 32) : sProp 𝕄 :=
  iprop(iRowPts m d w ∗ tShPts m d w ∗ oRowPts d w (f d))

/-- What a SparseCore's sixteen tiles take, together. -/
abbrev coreRes (f : (d : Dev nD) → Buf (Elt F) (oLoc d)) (d : Dev nD) (c : Fin 2) : sProp 𝕄 :=
  bigSep Finset.univ fun s : Fin 16 => tileRes m f d (tileNo (c, s))

/-- The three arrays whole are what the thirty-two tiles take. -/
theorem arrays_tiles (f : (d : Dev nD) → Buf (Elt F) (oLoc d)) (d : Dev nD) :
    (iprop(iPts m d ∗ tPts m d ∗ oPts d (f d)) : sProp 𝕄) = bigSep Finset.univ fun c : Fin 2 => coreRes m f d c := by
  rw [← bigSep_univ_prod (fun p : Fin 2 × Fin 16 => tileRes m f d (tileNo p)),
    ← bigSep_univ_equiv tileNo (fun w : Fin 32 => tileRes m f d w), bigSep_sep', bigSep_sep']
  congr 1
  · rw [← pointsTo_biUnion Finset.univ (ℓ := iLoc d) (fun w => (irow w).set) (fun i _ j _ h => Rect.part_disjoint idiv h), Rect.biUnion_part idiv]
    try rfl
  congr 1
  · exact pointsTo_piecesOf Finset.univ (m (tLoc d)) (by decide) fullShare
  · rw [← pointsTo_biUnion Finset.univ (ℓ := oLoc d) (fun w => (orow w).set) (fun i _ j _ h => Rect.part_disjoint odiv h), Rect.biUnion_part odiv]
    try rfl

/-! ## What the call's handshakes carry -/

/-- A SparseCore takes what its sixteen tiles take and brings it back, the output's rows holding the result; so does
    each tile. -/
def P : (K (F := F)).Pay (nD := nD) (Val := Elt F) (Name := ℕ) (U := UU) where
  st := fun q d c => match q with | 0 => coreRes m (fun d => m (oLoc d)) d (Fin.cast nCore_zero c)
  dn := fun q d c => match q with | 0 => coreRes m (result m) d (Fin.cast nCore_zero c)
  go := fun q d c s => match q with | 0 => tileRes m (fun d => m (oLoc d)) d (tileNo (Fin.cast nCore_zero c, Fin.cast nSub_zero s))
  td := fun q d c s => match q with | 0 => tileRes m (result m) d (tileNo (Fin.cast nCore_zero c, Fin.cast nSub_zero s))
  x := fun _ _ => iprop(emp)

instance P_storable : (P (F := F) m).IsStorable where
  st q d c := match q with
    | 0 => (inferInstance : BI.Storable (upEmb : UEmb _ 𝕄) (coreRes m (fun d => m (oLoc d)) d (Fin.cast nCore_zero c)))
  dn q d c := match q with
    | 0 => (inferInstance : BI.Storable (upEmb : UEmb _ 𝕄) (coreRes m (result m) d (Fin.cast nCore_zero c)))
  go q d c s := match q with
    | 0 => (inferInstance : BI.Storable (upEmb : UEmb _ 𝕄) (tileRes m (fun d => m (oLoc d)) d (tileNo (Fin.cast nCore_zero c, Fin.cast nSub_zero s))))
  td q d c s := match q with
    | 0 => (inferInstance : BI.Storable (upEmb : UEmb _ 𝕄) (tileRes m (result m) d (tileNo (Fin.cast nCore_zero c, Fin.cast nSub_zero s))))

end Cert.Proof.Common

end
-- ==== Proof.Streams.lean ====
/-
  SEVERAL INDIRECT GATHERS IN FLIGHT ON ONE DMA SEMAPHORE.

  The kernel starts four indirect gathers on one semaphore and only then waits, four times, each wait sized to one
  gather. No wait but the last tells anything of any destination: the rows of all four gathers credit the one counter,
  in any order. So the rows themselves are counted: a gather of `o` rows is `o` transfers of a `Batch` (Lib/Batch.lean),
  every row crediting the same `N`, and each wait is a wait sized to `o` of the batch's transfers; once every unit is
  consumed the batch hands every row back.

  `rowDone` is what one row of a gather delivers: the destination's row written, the entry of the offset list that named
  it, one piece of the source's share. `wp_gatherRows` issues a gather into a batch whose next `o` deliveries are its
  rows'; `rowsDone_join` puts the rows of one gather back together: the whole destination written with the gathered
  rows, the list and the source's share whole.
-/
module

public import Idealize.ShloMosaic.Lib.Batch
public import Idealize.ShloMosaic.Lib.SparseCore.Stream

@[expose] public section

noncomputable section

namespace Cert.Proof.Streams

open Idealize.ShloMosaic
open Idealize.SL
open Idealize.SL.BI (sProp Storable bigSep)
open scoped Idealize.SL.BI
open Idealize.SL.BI.BIBase Idealize.SL.BI.Laws Idealize.SL.Sem Idealize.SL.ProofMode
open Idealize.SL.RA
open Idealize.ShloMosaic.SparseCore (rowOf rowOf_of_lt gatherRow gatherPayload rows enqueueIndirectGather enqueueIndirectGather_bind)
open Idealize.ShloMosaic.Transfers (Batch batchBody batch_creditUpdate pending)

/-! ## A block of consecutive issue rights -/

section Pending

variable {M : Type} [URA M]

/-- The rights pending from `j` on are the next `o` and those pending from `j + o` on. -/
theorem pending_block {n : ℕ} (j o : ℕ) (h : j + o ≤ n) (Φ : Fin n → sProp M) :
    bigSep (pending (n := n) j) Φ
      = iprop((bigSep Finset.univ fun k : Fin o => Φ ⟨j + k.val, by omega⟩) ∗ bigSep (pending (n := n) (j + o)) Φ) := by
  classical
  let e : Fin o ↪ Fin n := ⟨fun k => ⟨j + k.val, by omega⟩, fun a b hab => by
    have := congrArg Fin.val hab; simp only at this; exact Fin.ext (by omega)⟩
  have hset : pending (n := n) j = (Finset.univ.map e) ∪ pending (n := n) (j + o) := by
    ext t
    simp only [pending, Finset.mem_filter, Finset.mem_univ, _root_.true_and, Finset.mem_union, Finset.mem_map]
    constructor
    · intro ht
      by_cases hlt : t.val < j + o
      · exact .inl ⟨⟨t.val - j, by omega⟩, Fin.ext (by show j + (t.val - j) = t.val; omega)⟩
      · exact .inr (by omega)
    · rintro (⟨k, rfl⟩ | ht)
      · show j ≤ j + k.val; omega
      · omega
  have hdis : Disjoint (Finset.univ.map e) (pending (n := n) (j + o)) := by
    rw [Finset.disjoint_left]
    intro t ht ht'
    obtain ⟨k, -, rfl⟩ := Finset.mem_map.mp ht
    have h1 : j + o ≤ j + k.val := (Finset.mem_filter.mp ht').2
    omega
  rw [hset, BI.bigSep_union hdis, BI.bigSep_map]
  rfl

end Pending

variable {nD : Nat} {τ : Topo} {sig : RefSig} {Ix : Type} [DecidableEq Ix]
variable {F : FTy → Type} {Name : Type} [DecidableEq Name]
variable {U : Type} [URA U] {Lvl : Type} [Preorder Lvl] {Λ : Labels}
variable {defs : Defs nD τ sig (Elt F) Λ} (EC : UEmb Counters (MT nD τ sig Ix (Elt F) Name U Lvl)) (𝒱 : Variants) (c : Thread nD τ) (bd : Option 𝒱.V)
variable {sp : Space} {s₀ s si : Shape} {e : EltTy} {a : Nat} {α : Type} {Q : α → sProp (MT nD τ sig Ix (Elt F) Name U Lvl)}

local notation "𝕄" => MT nD τ sig Ix (Elt F) Name U Lvl

/-! ## One row's delivery, and a gather's rows together -/

section RowsDone

variable (src : Memref sig c.2.kind sp s₀ e) (dst : Memref sig c.2.kind .vmem s e) (hg : s₀.Gathers a s)
variable (offs : Memref sig c.2.kind .vmem si .i32) (hn : si.numel = s.size hg.axis')
variable (q qo : PosShare TreeShare) (fs : Buf (Elt F) (src.view.loc c)) (fd : Buf (Elt F) (dst.view.loc c)) (fo : Buf (Elt F) (offs.view.loc c))
variable (ho : 0 < s.size hg.axis') (r : Fin (s.size hg.axis') → Fin (s₀.size hg.axis))

/-- What row `k` of a gather delivers once its transfer has landed: row `k` of the destination written with row `r k` of
    the source, the list's entry `k` at its share, and the `k`-th piece of the source's share. -/
def rowDone (k : Fin (s.size hg.axis')) : sProp 𝕄 :=
  iprop(((dst.view.loc c ↦[(dst.view.slice (s.rowRect hg.axis' k)).set]{fullShare}
          ((dst.view.slice (s.rowRect hg.axis' k)).write (Elt F) fd (fun i => src.view.read (Elt F) fs (hg.rowIdx (r k) i)) Finset.univ))
      ∗ (offs.view.loc c ↦[{offs.view.emb (si.rowMajor.symm (k.cast hn.symm))}]{qo} fo))
      ∗ (src.view.loc c ↦[src.view.set]{pieceOf q _ ho k} fs))

instance rowDone_storable (k : Fin (s.size hg.axis')) :
    Storable (upEmb : UEmb _ 𝕄) (rowDone (Ix := Ix) (Name := Name) (U := U) (Lvl := Lvl) c src dst hg offs hn q qo fs fd fo ho r k) := by
  unfold rowDone; infer_instance

/-- A gather's rows all delivered are its destination written with the gathered rows, the source's share and the list's
    share whole again. -/
theorem rowsDone_join :
    bigSep Finset.univ (rowDone (Ix := Ix) (Name := Name) (U := U) (Lvl := Lvl) c src dst hg offs hn q qo fs fd fo ho r)
      ⊢ iprop((dst.view.loc c ↦[dst.view.set]{fullShare}
              (dst.view.write (Elt F) fd (gatherPayload hg (src.view.read (Elt F) fs) r) Finset.univ))
          ∗ (src.view.loc c ↦[src.view.set]{q} fs) ∗ (offs.view.loc c ↦[offs.view.set]{qo} fo)) := by
  have hen : Function.Bijective fun k : Fin (s.size hg.axis') => si.rowMajor.symm (k.cast hn.symm) :=
    si.rowMajor.symm.bijective.comp (finCongr hn.symm).bijective
  have hpay : ∀ (k : Fin (s.size hg.axis')) j, src.view.read (Elt F) fs (hg.rowIdx (r k) j)
      = gatherPayload hg (src.view.read (Elt F) fs) r ((s.rowRect hg.axis' k).emb j) := fun k j => by
    unfold gatherPayload; rw [Shape.Gathers.idx_rowRect_emb]
  rw [pointsTo_piecesOf src.view.set fs ho q, pointsTo_entries c offs.view _ hen qo fo]
  refine (Transfers.bigSep_sep_out _ _ _).trans ((sep_mono_left (Transfers.bigSep_sep_out _ _ _)).trans ?_)
  iintro ⟨⟨Hrows, Hentries⟩, Hpieces⟩
  isplitl [Hrows]
  · iapply (pointsTo_rows_write c dst.view hg.axis' fd (fun k i => src.view.read (Elt F) fs (hg.rowIdx (r k) i))
      (gatherPayload hg (src.view.read (Elt F) fs) r) hpay)
    iexact Hrows
  isplitl [Hpieces] <;> iassumption

end RowsDone

/-! ## Issuing a gather into a batch -/

/-- An indirect gather at the head of a program whose `o` rows are the batch's transfers `j … j + o - 1`: holding a share
    of the source's elements, the destination's outright, a share of the list's, whose words are all rows of the source
    (`hin`), and the `Batch` with `j` transfers issued, whose next `o` deliveries the rows' entail (`hD`), every row
    crediting the batch's `N` (`hN`), the core issues the gather and continues holding the `Batch` with `j + o` issued. -/
theorem wp_gatherRows [Infinite Name] [EC.LandsIn (upEmb : UEmb _ 𝕄)] {n : ℕ} {D : Fin n → sProp 𝕄} {j u : ℕ}
    {src : Memref sig c.2.kind sp s₀ e} {dst : Memref sig c.2.kind .vmem s e} {hg : s₀.Gathers a s}
    {offs : Memref sig c.2.kind .vmem si .i32} {hn : si.numel = s.size hg.axis'} {sem : DmaSem sig}
    {hp : c.2.kind = .scVector} {hsrc : src.view.WordExact} {he : e.bits = 32} {hsp : sp = .hbm ∨ sp = .shared} {hr : s₀.StreamRows a}
    {k : PUnit → Prog (TpuEff nD τ sig (Elt F) Λ c.2) α}
    {q qo : PosShare TreeShare} {fs : Buf (Elt F) (src.view.loc c)} {fd : Buf (Elt F) (dst.view.loc c)} {fo : Buf (Elt F) (offs.view.loc c)}
    (ι : Ix) (N : ℕ) (hN : ∀ i, (dst.slice (s.rowRect hg.axis' i) (s.stride_rowRect hg.axis' i)).view.dmaCredit = N)
    (ho : 0 < s.size hg.axis') (hin : ∀ x, (offs.view.read (Elt F) fo x).toNat < s₀.size hg.axis)
    (hj : j + s.size hg.axis' ≤ n) (hu : u ≤ j * N)
    (hD : ∀ i : Fin (s.size hg.axis'),
      rowDone c src dst hg offs hn q qo fs fd fo ho (rows (offs.view.read (Elt F) fo) hn hin) i ⊢ D ⟨j + i.val, by omega⟩) :
    iprop((src.view.loc c ↦[src.view.set]{q} fs) ∗ (dst.view.loc c ↦[dst.view.set]{fullShare} fd)
        ∗ (offs.view.loc c ↦[offs.view.set]{qo} fo) ∗ Batch EC c (.dma sem) ι N D j u)
      ⊢ iprop((Batch EC c (.dma sem) ι N D (j + s.size hg.axis') u -∗ wp frame (wpE defs 𝒱 c bd) Set.univ (k ⟨⟩) Q)
          -∗ wp frame (wpE defs 𝒱 c bd) Set.univ (enqueueIndirectGather hp src dst hg offs hn sem hsrc he hsp hr >>= k) Q) := by
  rw [enqueueIndirectGather_bind]
  let S : Stream nD τ sig (Elt F) :=
    Stream.issued c offs.view hn sem (fun i w => (rowOf (s₀.size hg.axis) w).map (gatherRow c src dst hg sem hsrc he hsp hr i)) 0
  let r : Fin (s.size hg.axis') → Fin (s₀.size hg.axis) := rows (offs.view.read (Elt F) fo) hn hin
  let rd : Fin (s.size hg.axis') → RowDma τ sig (Elt F) c.2 sem := fun i => gatherRow c src dst hg sem hsrc he hsp hr i (r i)
  -- the rows agree on their credit, each word names a row, the entries number the list
  have hA : S.RowsAgree := fun i x x' ρ ρ' h h' => by
    obtain ⟨_, _, rfl⟩ := Option.map_eq_some_iff.mp h
    obtain ⟨_, _, rfl⟩ := Option.map_eq_some_iff.mp h'
    rfl
  have hrd : ∀ i, S.row i (S.word fo i) = some (rd i) := fun i => by
    change (rowOf (s₀.size hg.axis) (offs.view.read (Elt F) fo (S.entry i))).map _ = _
    rw [rowOf_of_lt (hin _)]; rfl
  have hen : Function.Bijective S.entry := si.rowMajor.symm.bijective.comp (finCongr hn.symm).bijective
  have hsum : ∑ i, (rd i).dst.view.dmaCredit = s.size hg.axis' * N := by
    rw [Finset.sum_congr rfl fun i _ => hN i, Finset.sum_const, smul_eq_mul, Finset.card_univ, Fintype.card_fin]
  unfold Batch
  iintro ⟨Hs, Hd, Ho, ⟨%γ, %γ₀, %κ, #Hinv, HI, H0, Hcred⟩⟩ Hk
  ihave HI' := (Entails.of_eq (pending_block j _ hj fun t => count EC (γ t) 0)) $$ HI
  icases HI' with ⟨Hγ, HI⟩
  ihave Hd' := (Entails.of_eq (pointsTo_rows c dst.view hg.axis' fullShare fd)) $$ Hd
  ihave Ho' := (Entails.of_eq (pointsTo_entries c offs.view S.entry hen qo fo)) $$ Ho
  ihave Hs' := (Entails.of_eq (pointsTo_piecesOf src.view.set fs ho q)) $$ Hs
  iapply (wp_enqueueIndirectDma 𝒱 c bd Set.univ (qo := qo) (fo := fo) (rd := rd) ι _ hA hrd hsum) $$ [Hd' Ho' Hs' Hγ]
  · -- one row: its entry's share in front, behind it the row's write, and its credit from the batch
    have hrow : ∀ i, iprop(inv κ (batchBody EC (c, SemLoc.dma sem) N D γ γ₀)
          ∗ (((dst.view.loc c ↦[(dst.view.slice (s.rowRect hg.axis' i)).set]{fullShare} fd) ∗ S.heldEntry qo fo i)
            ∗ (src.view.loc c ↦[src.view.set]{pieceOf q _ ho i} fs) ∗ count EC (γ ⟨j + i.val, by omega⟩) 0))
        ⊢ iprop(S.heldEntry qo fo i ∗ (S.heldEntry qo fo i -∗ rowRes c (rd i))) := fun i => by
      iintro ⟨#Hinv, ⟨⟨Hr, He⟩, Hp, Hγi⟩⟩
      isplitl [He]; · iexact He
      iintro He
      unfold rowRes
      iexists pieceOf q _ ho i, fs, iprop((dst.view.loc c ↦[(dst.view.slice (s.rowRect hg.axis' i)).set]{fullShare}
          ((dst.view.slice (s.rowRect hg.axis' i)).write (Elt F) fd (fun x => src.view.read (Elt F) fs (hg.rowIdx (r i) x)) Finset.univ))
          ∗ S.heldEntry qo fo i)
      isplitl [Hp]; · iexact Hp
      isplitl [Hr He]
      · iapply writeUpdate_frame
        isplitl [Hr]
        · iapply (pointsTo_writeUpdate c (v := dst.view.slice (s.rowRect hg.axis' i)) subset_rfl) $$ Hr
        · iexact He
      · have hcr : (rd i).dst.view.amount (.dma sem) = N := hN i
        rw [hcr]
        iapply (batch_creditUpdate EC (⟨j + i.val, by omega⟩ : Fin n) (hD i))
        isplitr; · iexact Hinv
        iexact Hγi
    unfold Stream.res
    ihave H1 := Transfers.bigSep_sep_in _ _ _ $$ [Hd' Ho']; · isplitl [Hd'] <;> iassumption
    ihave H2 := Transfers.bigSep_sep_in _ _ _ $$ [Hs' Hγ]; · isplitl [Hs'] <;> iassumption
    ihave H3 := Transfers.bigSep_sep_in _ _ _ $$ [H1 H2]; · isplitl [H1] <;> iassumption
    iapply (Transfers.bigSep_mono_pers Finset.univ _ _ _ fun i _ => hrow i)
    isplitr; · iexact Hinv
    iexact H3
  · iintro Hnew
    iapply Hk
    iexists γ, γ₀, κ
    isplitr; · iexact Hinv
    isplitl [HI]; · iexact HI
    isplitl [H0]; · iexact H0
    rw [show (j + s.size hg.axis') * N - u = (j * N - u) + s.size hg.axis' * N by rw [Nat.add_mul]; omega, ← tallyAt_add]
    icombine Hcred Hnew as H
    iexact H

end Cert.Proof.Streams

end
-- ==== Proof.Windows.lean ====
/-
  THE WINDOWS A TILE MOVES, their elements and what they hold.

  Tile `L` is number `tileOf L`. The slices the kernel takes of the index array and of the output are that tile's parts of
  them. Its scratch is cut in four: gather `k` reads the list in row `k` of the index scratch and fills rows
  `128 k … 128 k + 127` of the row scratch. The cuts are again parts along the first axis, so the scratch whole is the
  four windows together. `words` is what the index scratch holds once fetched, `rowsGot` what the row scratch holds once
  the four gathers have landed: the tile's rows of the result (`gather_value`).
-/
module

public import proofs.«01_k».proof.Proof.Common
public import proofs.«01_k».proof.Proof.Streams

@[expose] public section

noncomputable section

namespace Cert.Proof.Windows

open Cert.KernelIdeal Cert.KernelIdeal.Gen
open Cert.Proof.Values Cert.Proof.Common

open Idealize.ShloMosaic
open Idealize.ShloMosaic.SparseCore (S V T gatherPayload rows)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.ValueIdx (ix1 ix2 eq_ix2)

variable {F : FTy → Type}

local notation "𝕄" => MT nD τ sig (HIx 1) (Elt F) ℕ UU ℕ

variable (m : (ℓ : Loc nD τ sig) → Buf (Elt F) ℓ) (d : Dev nD) (L : grid0.Coords)

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The tile's number. -/
abbrev tileOf (L : grid0.Coords) : Fin 32 := tileNo (Fin.cast bound_zero (L 0), Fin.cast bound_one (L 1))
/-- The thread that runs the tile. -/
abbrev thr : Thread nD τ := V d (cV L) (jV L)

/-! ## The tile's parts of the index array and of the output -/

abbrev irowK : Rect S128x128 := Rect.unit (s := S128x128) (k0_off1 L) S4x128.size (k0_off1_inb L)
abbrev orowK : Rect S16384x16 := Rect.unit (s := S16384x16) (k0_off2 L) S512x16.size (k0_off2_inb L)
abbrev iSl : Memref sig .scVector .hbm S4x128 .i32 := (iM).slice (irowK L) (fun _ => rfl)
abbrev oSl : Memref sig .scVector .hbm S512x16 .f32 := (oM).slice (orowK L) (fun _ => rfl)
/-- The whole table, as the gathers name it. -/
abbrev tSl : Memref sig .scVector .hbm S1000000x16 .f32 :=
  (tM).slice (Rect.unit (s := S1000000x16) ![0, 0] S1000000x16.size inb_S1000000x16_S1000000x16_0_0) (fun _ => rfl)

theorem irowK_eq : irowK L = irow (tileOf L) := by
  unfold irowK irow Rect.part Rect.block
  congr 1 <;> funext a
  · rw [k0_off1_eq]
    match a with
    | 0 =>
      have h := tileNo_val (Fin.cast bound_zero (L 0)) (Fin.cast bound_one (L 1))
      simp only [Fin.val_cast] at h
      simp [Shape.partIx, Shape.partSize, h]; omega
    | 1 => simp [Shape.partIx, Shape.partSize]
  · match a with
    | 0 => simp [Shape.partSize]
    | 1 => simp [Shape.partSize]

theorem orowK_eq : orowK L = orow (tileOf L) := by
  unfold orowK orow Rect.part Rect.block
  congr 1 <;> funext a
  · rw [k0_off2_eq]
    match a with
    | 0 =>
      have h := tileNo_val (Fin.cast bound_zero (L 0)) (Fin.cast bound_one (L 1))
      simp only [Fin.val_cast] at h
      simp [Shape.partIx, Shape.partSize, h]; omega
    | 1 => simp [Shape.partIx, Shape.partSize]
  · match a with
    | 0 => simp [Shape.partSize]
    | 1 => simp [Shape.partSize]

theorem set_iSl : (iSl L).view.set = (irow (tileOf L)).set := by
  show ((View.whole (main_v0_scv : Ref sig .scVector)).slice (irowK L)).set = _
  rw [View.set_slice, irowK_eq]; exact Finset.map_refl
theorem set_oSl : (oSl L).view.set = (orow (tileOf L)).set := by
  show ((View.whole (main_v1_scv : Ref sig .scVector)).slice (orowK L)).set = _
  rw [View.set_slice, orowK_eq]; exact Finset.map_refl

theorem pts_iSl (f : Buf (Elt F) (iLoc d)) :
    ((iSl L).view.loc (thr d L) ↦[(iSl L).view.set]{fullShare} f : sProp 𝕄) = iLoc d ↦[(irow (tileOf L)).set]{fullShare} f := by
  rw [set_iSl]
theorem pts_oSl (f : Buf (Elt F) (oLoc d)) :
    ((oSl L).view.loc (thr d L) ↦[(oSl L).view.set]{fullShare} f : sProp 𝕄) = oLoc d ↦[(orow (tileOf L)).set]{fullShare} f := by
  rw [set_oSl]

/-! ## The four windows of the scratch -/

theorem sdiv : 4 ∣ S4x128.size 0 := ⟨1, rfl⟩
theorem rdiv : 4 ∣ S512x16.size 0 := ⟨128, rfl⟩

theorem list_inb (k : Fin 4) : ∀ a, (![k.val, 0] : Fin 2 → Nat) a + S1x128.size a ≤ S4x128.size a := by revert k; decide
theorem block_inb (k : Fin 4) : ∀ a, (![128 * k.val, 0] : Fin 2 → Nat) a + S128x16.size a ≤ S512x16.size a := by revert k; decide
abbrev listR (k : Fin 4) : Rect S4x128 := Rect.unit (s := S4x128) ![k.val, 0] S1x128.size (list_inb k)
abbrev blockR (k : Fin 4) : Rect S512x16 := Rect.unit (s := S512x16) ![128 * k.val, 0] S128x16.size (block_inb k)
/-- Gather `k`'s list, -/
abbrev listM (k : Fin 4) : Memref sig .scVector .vmem S128 .i32 := ((sM).slice (listR k) (fun _ => rfl)).squeeze S128 squeezes_S1x128_S128
/-- and its destination. -/
abbrev blockM (k : Fin 4) : Memref sig .scVector .vmem S128x16 .f32 := (rM).slice (blockR k) (fun _ => rfl)

theorem listR_eq (k : Fin 4) : listR k = Rect.part (s := S4x128) (a₀ := 0) sdiv k := by
  unfold listR Rect.part Rect.block
  congr 1 <;> funext a <;> match a with
  | 0 => simp [Shape.partIx, Shape.partSize]
  | 1 => simp [Shape.partIx, Shape.partSize]
theorem blockR_eq (k : Fin 4) : blockR k = Rect.part (s := S512x16) (a₀ := 0) rdiv k := by
  unfold blockR Rect.part Rect.block
  congr 1 <;> funext a <;> match a with
  | 0 => simp [Shape.partIx, Shape.partSize, Nat.mul_comm]
  | 1 => simp [Shape.partIx, Shape.partSize]

theorem set_listM (k : Fin 4) : (listM k).view.set = (Rect.part (s := S4x128) (a₀ := 0) sdiv k).set := by
  show (((View.whole (cc0_scratch0 : Ref sig .scVector)).slice (listR k)).reshape S128 squeezes_S1x128_S128.numel_eq).set = _
  rw [View.set_reshape, View.set_slice]; exact Finset.map_refl.trans (congrArg (fun r : Rect S4x128 => r.set) (listR_eq k))
theorem set_blockM (k : Fin 4) : (blockM k).view.set = (Rect.part (s := S512x16) (a₀ := 0) rdiv k).set := by
  show ((View.whole (cc0_scratch1 : Ref sig .scVector)).slice (blockR k)).set = _
  rw [View.set_slice, blockR_eq]; exact Finset.map_refl

/-- The index scratch whole is its four lists. -/
theorem scratch_lists (f : Buf (Elt F) ((thr d L).loc cc0_scratch0)) :
    ((sM).view.loc (thr d L) ↦{fullShare} f : sProp 𝕄)
      = bigSep Finset.univ fun k : Fin 4 => (listM k).view.loc (thr d L) ↦[(listM k).view.set]{fullShare} f := by
  rw [bigSep_congr (Ψ := fun k : Fin 4 => ((thr d L).loc cc0_scratch0 ↦[(Rect.part (s := S4x128) (a₀ := 0) sdiv k).set]{fullShare} f : sProp 𝕄))
      fun k _ => by rw [set_listM],
    ← pointsTo_biUnion Finset.univ (ℓ := (thr d L).loc cc0_scratch0) (fun k => (Rect.part (s := S4x128) (a₀ := 0) sdiv k).set)
      (fun i _ j _ h => Rect.part_disjoint sdiv h), Rect.biUnion_part sdiv]

/-- The row scratch whole is its four blocks. -/
theorem scratch_blocks (f : Buf (Elt F) ((thr d L).loc cc0_scratch1)) :
    ((rM).view.loc (thr d L) ↦{fullShare} f : sProp 𝕄)
      = bigSep Finset.univ fun k : Fin 4 => (blockM k).view.loc (thr d L) ↦[(blockM k).view.set]{fullShare} f := by
  rw [bigSep_congr (Ψ := fun k : Fin 4 => ((thr d L).loc cc0_scratch1 ↦[(Rect.part (s := S512x16) (a₀ := 0) rdiv k).set]{fullShare} f : sProp 𝕄))
      fun k _ => by rw [set_blockM],
    ← pointsTo_biUnion Finset.univ (ℓ := (thr d L).loc cc0_scratch1) (fun k => (Rect.part (s := S512x16) (a₀ := 0) rdiv k).set)
      (fun i _ j _ h => Rect.part_disjoint rdiv h), Rect.biUnion_part rdiv]

/-! ## What the scratch holds -/

/-- The tile's four rows of indices. -/
def words : Buf (Elt F) ((thr d L).loc cc0_scratch0) := (iSl L).view.read (Elt F) (ids m d)
/-- The tile's 512 rows of the result. -/
def rowsGot : Buf (Elt F) ((thr d L).loc cc0_scratch1) := (oSl L).view.read (Elt F) (result m d)

/-- The number of the output's first row that is the tile's. -/
abbrev base : ℕ := 1024 * (L 1).val + 512 * (L 0).val
theorem base_lt (p : ℕ) (hp : p < 512) : base L + p < 16384 := by
  have h0 : (L 0).val < 2 := (L 0).isLt
  have h1 : (L 1).val < 16 := (L 1).isLt
  unfold base; omega

/-- Entry `(k, j)` of the index scratch is entry `base + 128 k + j` of the index list. -/
theorem words_at (k : Fin 4) (j : Fin 128) :
    words m d L (ix2 k j) = (m (aLoc d) (ix1 ⟨base L + (128 * k.val + j.val), base_lt L _ (by omega)⟩) : BitVec 32) := by
  have h0 : (L 0).val < 2 := (L 0).isLt
  have h1 : (L 1).val < 16 := (L 1).isLt
  have e : (irowK L).emb (ix2 k j) = (ix2 ⟨8 * (L 1).val + 4 * (L 0).val + k.val, by omega⟩ j : S128x128.Idx) := by
    funext a
    match a with
    | 0 => exact Fin.ext (by rw [Rect.emb_apply]; simp [k0_off1_eq, ix2])
    | 1 => exact Fin.ext (by rw [Rect.emb_apply]; simp [k0_off1_eq, ix2])
  show ids m d ((irowK L).emb (ix2 k j)) = _
  rw [e]
  unfold ids
  rw [reshaped_at]
  congr 3
  show 128 * (8 * (L 1).val + 4 * (L 0).val + k.val) + j.val = base L + (128 * k.val + j.val)
  unfold base; omega

/-- Row `p` of the tile's rows is row `base + p` of the result. -/
theorem rowsGot_at (p : Fin 512) (l : Fin 16) :
    rowsGot m d L (ix2 p l) = result m d (ix2 ⟨base L + p.val, base_lt L _ p.isLt⟩ l) := by
  have e : (orowK L).emb (ix2 p l) = (ix2 ⟨base L + p.val, base_lt L _ p.isLt⟩ l : S16384x16.Idx) := by
    funext a
    match a with
    | 0 => exact Fin.ext (by rw [Rect.emb_apply]; simp [k0_off2_eq, ix2])
    | 1 => exact Fin.ext (by rw [Rect.emb_apply]; simp [k0_off2_eq, ix2])
  show result m d ((orowK L).emb (ix2 p l)) = _
  rw [e]

/-- Entry `j` of list `k` stands at `(k, j)` of the index scratch. -/
theorem list_emb (k : Fin 4) (y : S128.Idx) : (listM k).view.emb y = (ix2 k (y 0) : S4x128.Idx) := by
  have e : Shape.reshapeEquiv squeezes_S1x128_S128.numel_eq y = (ix2 0 (y 0) : S1x128.Idx) := by
    refine Shape.reshapeEquiv_eq_of_rowMajor _ ?_
    rw [Shape.rowMajor_val_one, Shape.rowMajor_val_two]
    simp [ix2]
  show (listR k).emb (Shape.reshapeEquiv squeezes_S1x128_S128.numel_eq y) = _
  rw [e]
  funext a
  match a with
  | 0 => exact Fin.ext (by rw [Rect.emb_apply]; simp [ix2])
  | 1 => exact Fin.ext (by rw [Rect.emb_apply]; simp [ix2])

/-- Element `(j, l)` of block `k` stands at `(128 k + j, l)` of the row scratch. -/
theorem block_emb (k : Fin 4) (j : Fin 128) (l : Fin 16) :
    (blockM k).view.emb (ix2 j l) = (ix2 ⟨128 * k.val + j.val, by omega⟩ l : S512x16.Idx) := by
  show (blockR k).emb (ix2 j l) = _
  funext a
  match a with
  | 0 => exact Fin.ext (by rw [Rect.emb_apply]; simp [ix2])
  | 1 => exact Fin.ext (by rw [Rect.emb_apply]; simp [ix2])

/-- Entry `y` of list `k`, as the gather reads it. -/
theorem list_read (k : Fin 4) (y : S128.Idx) :
    (listM k).view.read (Elt F) (words m d L) y
      = (m (aLoc d) (ix1 ⟨base L + (128 * k.val + (y 0).val), base_lt L _ (by have := (y 0).isLt; simp at this; omega)⟩) : BitVec 32) := by
  show words m d L ((listM k).view.emb y) = _
  rw [list_emb]; exact words_at m d L k (y 0)

/-- Every entry of a list names a row of the table. -/
theorem list_inRange (h : InRange m) (k : Fin 4) :
    ∀ y, ((listM k).view.read (Elt F) (words m d L) y).toNat < S1000000x16.size gathers_S1000000x16_S128x16.axis := fun y => by
  rw [list_read]; exact h d _

/-- The rows gather `k` fetches. -/
abbrev named (h : InRange m) (k : Fin 4) :
    Fin (S128x16.size gathers_S1000000x16_S128x16.axis') → Fin (S1000000x16.size gathers_S1000000x16_S128x16.axis) :=
  rows ((listM k).view.read (Elt F) (words m d L)) rfl (list_inRange m d L h k)

/-- Block `k` of the row scratch, written with what gather `k` fetches, is that block of the tile's rows of the result. -/
theorem gather_value (h : InRange m) (k : Fin 4) (fr : Buf (Elt F) ((thr d L).loc cc0_scratch1)) :
    ∀ i ∈ (blockM k).view.set,
      (blockM k).view.write (Elt F) fr (gatherPayload gathers_S1000000x16_S128x16 (tSl.view.read (Elt F) (m (tLoc d))) (named m d L h k)) Finset.univ i
        = rowsGot m d L i := by
  intro i hi
  obtain ⟨x, -, rfl⟩ := Finset.mem_map.mp hi
  obtain ⟨j, l, rfl⟩ : ∃ (j : Fin 128) (l : Fin 16), x = ix2 j l := ⟨x 0, x 1, eq_ix2 x⟩
  refine (View.write_emb_of_mem _ _ (Finset.mem_univ _)).trans ?_
  rw [block_emb, rowsGot_at]
  have ej : ((S128.rowMajor.symm (j.cast rfl) : S128.Idx) 0).val = j.val := by
    rw [← Shape.rowMajor_val_one, Equiv.apply_symm_apply]; rfl
  have er : (named m d L h k j).val
      = ((m (aLoc d) (ix1 ⟨base L + (128 * k.val + j.val), base_lt L _ (by omega)⟩) : BitVec 32)).toNat := by
    show BitVec.toNat ((listM k).view.read (Elt F) (words m d L) (S128.rowMajor.symm (j.cast rfl))) = _
    rw [list_read]
    congr 4
    rw [ej]
  show m (tLoc d) ((Rect.unit (s := S1000000x16) ![0, 0] S1000000x16.size inb_S1000000x16_S1000000x16_0_0).emb
      (gathers_S1000000x16_S128x16.idx (named m d L h k) (ix2 j l))) = _
  unfold result gathered
  congr 1
  funext a
  match a with
  | 0 =>
    refine Fin.ext ?_
    rw [Rect.emb_apply]
    have e := congrArg Fin.val (Shape.Gathers.idx_axis gathers_S1000000x16_S128x16 (named m d L h k) (ix2 j l))
    have e' : (gathers_S1000000x16_S128x16.idx (named m d L h k) (ix2 j l) 0).val = (named m d L h k j).val := e
    have hw := rowOfWord_val (h d (ix1 ⟨base L + (128 * k.val + j.val), base_lt L _ (by omega)⟩))
    show 0 + 1 * _ = (rowOfWord (m (aLoc d) (ix1 ⟨base L + (128 * k.val + j.val), base_lt L _ (by omega)⟩))).val
    rw [hw, ← er, ← e']
    omega
  | 1 =>
    refine Fin.ext ?_
    rw [Rect.emb_apply]
    have e := Shape.Gathers.idx_of_ne gathers_S1000000x16_S128x16 (named m d L h k) (ix2 j l) 1 (by decide)
    show 0 + 1 * _ = l.val
    rw [e]
    show 0 + 1 * l.val = l.val
    omega

end Cert.Proof.Windows

end
-- ==== Proof.Tile.lean ====
/-
  ONE TILE'S RUN.

  The tile fetches its four rows of indices, issues its four gathers on one semaphore, waits four times, and copies the
  512 gathered rows to its rows of the output. The gathers' 512 rows are the transfers of one batch: `delivered` is what
  the batch's transfer `128 k + j` — row `j` of gather `k` — hands back. `issue_gather` issues gather `k` into the batch,
  `wait_gather` passes one of the first three waits, which hand back nothing, and the last wait hands back all 512 rows,
  which together are the row scratch holding the tile's rows of the result (`delivered_join`).
-/
module

public import proofs.«01_k».proof.Proof.Windows

@[expose] public section

noncomputable section

namespace Cert.Proof.Tile

open Cert.KernelIdeal Cert.KernelIdeal.Gen
open Cert.Proof.Values Cert.Proof.Common Cert.Proof.Windows
open Cert.Proof.Streams (rowDone rowsDone_join wp_gatherRows)

open Idealize.ShloMosaic
open Idealize.ShloMosaic.SparseCore (S V T)
open Idealize.ShloMosaic.SparseCore.Cfg (HIx Pay ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Tactic
open Idealize.ShloMosaic.Transfers (Batch)

variable {F : FTy → Type}

local notation "𝕄" => MT nD τ sig (HIx 1) (Elt F) ℕ UU ℕ

variable (m : (ℓ : Loc nD τ sig) → Buf (Elt F) ℓ) (d : Dev nD) (L : grid0.Coords)

/-! ## The tile's semaphores and scratch, out of what the launch hands it -/

abbrev fetchCell : GSem nD τ sig := (thr d L, .dma cc0_scoped0.sem)
abbrev gatherCell : GSem nD τ sig := (thr d L, .dma cc0_scratch2.sem)
abbrev storeCell : GSem nD τ sig := (thr d L, .dma cc0_scoped1.sem)

theorem ownSems0_tile :
    (ownSems0 (thr d L) : sProp 𝕄)
      = iprop(semVal (fetchCell d L) 0 ∗ semVal (gatherCell d L) 0 ∗ semVal (storeCell d L) 0
          ∗ bigSep ((((ownCells (thr d L)).erase (fetchCell d L)).erase (gatherCell d L)).erase (storeCell d L)) fun g => semVal g 0) := by
  unfold SparseCore.Cfg.ownSems0
  have hf : (SemLoc.dma cc0_scoped0.sem : SemLoc sig).isScoped .scVector = true := by decide
  have hg : (SemLoc.dma cc0_scratch2.sem : SemLoc sig).isScoped .scVector = true := by decide
  have hs : (SemLoc.dma cc0_scoped1.sem : SemLoc sig).isScoped .scVector = true := by decide
  have n1 : gatherCell d L ≠ fetchCell d L := by simp [gatherCell, fetchCell]; decide
  have n2 : storeCell d L ≠ gatherCell d L := by simp [gatherCell, storeCell]; decide
  have n3 : storeCell d L ≠ fetchCell d L := by simp [fetchCell, storeCell]; decide
  rw [SparseCore.bigSep_erase' ((mem_ownCells (g := fetchCell d L)).mpr ⟨rfl, hf⟩),
    SparseCore.bigSep_erase' (Finset.mem_erase.mpr ⟨n1, (mem_ownCells (g := gatherCell d L)).mpr ⟨rfl, hg⟩⟩),
    SparseCore.bigSep_erase' (Finset.mem_erase.mpr ⟨n2, Finset.mem_erase.mpr ⟨n3, (mem_ownCells (g := storeCell d L)).mpr ⟨rfl, hs⟩⟩⟩)]

theorem ownBufs_tile :
    (ownBufs (thr d L) : sProp 𝕄)
      = iprop((∃ f, (thr d L).loc cc0_scratch0 ↦{fullShare} f) ∗ (∃ f, (thr d L).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## The four gathers as one batch -/

abbrev hG : S1000000x16.Gathers 0 S128x16 := gathers_S1000000x16_S128x16

/-- The piece of a share of the table that gather `k` reads under. -/
abbrev gq (q : PosShare TreeShare) (k : Fin 4) : PosShare TreeShare := pieceOf q 4 (by decide) k

/-- A row of a gather has 128 rows' worth. -/
theorem rows_pos : 0 < S128x16.size hG.axis' := by decide

/-- What row `j` of gather `k` hands back. -/
def deliveredAt (h : InRange m) (q : PosShare TreeShare) (fr : Buf (Elt F) ((thr d L).loc cc0_scratch1)) (k : Fin 4) (j : Fin 128) : sProp 𝕄 :=
  rowDone (thr d L) tSl (blockM k) hG (listM k) rfl (gq q k) fullShare (m (tLoc d)) fr (words m d L) rows_pos (named m d L h k) j

/-- What the batch's transfer `t` hands back: it is row `t mod 128` of gather `t / 128`. -/
def delivered (h : InRange m) (q : PosShare TreeShare) (fr : Buf (Elt F) ((thr d L).loc cc0_scratch1)) (t : Fin (4 * 128)) : sProp 𝕄 :=
  deliveredAt m d L h q fr (finProdFinEquiv.symm t).1 (finProdFinEquiv.symm t).2

instance delivered_storable (h : InRange m) (q : PosShare TreeShare) (fr : Buf (Elt F) ((thr d L).loc cc0_scratch1)) (t : Fin (4 * 128)) :
    Storable (upEmb : UEmb _ 𝕄) (delivered m d L h q fr t) := by
  unfold delivered deliveredAt; exact Streams.rowDone_storable ..

/-- Transfer `128 k + j` is row `j` of gather `k`. -/
theorem delivered_eq (h : InRange m) (q : PosShare TreeShare) (fr : Buf (Elt F) ((thr d L).loc cc0_scratch1)) (k : Fin 4) (j : Fin 128)
    (t : Fin (4 * 128)) (ht : t.val = 128 * k.val + j.val) : delivered m d L h q fr t = deliveredAt m d L h q fr k j := by
  have e : t = finProdFinEquiv (k, j) := Fin.ext (by rw [ht]; show _ = j.val + 128 * k.val; omega)
  unfold delivered
  rw [e, Equiv.symm_apply_apply]

/-- One row's credit. -/
abbrev rowCredit : ℕ := ((blockM 0).slice (S128x16.rowRect hG.axis' ⟨0, rows_pos⟩) (S128x16.stride_rowRect hG.axis' ⟨0, rows_pos⟩)).view.dmaCredit

theorem row_credit (k : Fin 4) (i : Fin (S128x16.size hG.axis')) :
    ((blockM k).slice (S128x16.rowRect hG.axis' i) (S128x16.stride_rowRect hG.axis' i)).view.dmaCredit = rowCredit := rfl

theorem rowCredit_pos : 0 < rowCredit := by decide

/-- A wait sized to one gather is a wait for 128 rows. -/
theorem block_credit (k : Fin 4) : (blockM k).view.dmaCredit = 128 * rowCredit := by decide +revert

/-- A share of the table, in the four pieces the gathers read under. -/
theorem table_pieces (q : PosShare TreeShare) :
    (tSl.view.loc (thr d L) ↦[tSl.view.set]{q} m (tLoc d) : sProp 𝕄)
      = bigSep Finset.univ fun k : Fin 4 => tSl.view.loc (thr d L) ↦[tSl.view.set]{gq q k} m (tLoc d) :=
  pointsTo_piecesOf (ℓ := tLoc d) tSl.view.set (m (tLoc d)) (o := 4) (by decide) q

/-- All 512 rows handed back: the row scratch holds the tile's rows of the result; the share of the table and the index
    scratch are whole again. -/
theorem delivered_join (h : InRange m) (q : PosShare TreeShare) (fr : Buf (Elt F) ((thr d L).loc cc0_scratch1)) :
    bigSep Finset.univ (delivered m d L h q fr)
      ⊢ (iprop(((rM).view.loc (thr d L) ↦{fullShare} rowsGot m d L) ∗ (tSl.view.loc (thr d L) ↦[tSl.view.set]{q} m (tLoc d))
          ∗ ((sM).view.loc (thr d L) ↦{fullShare} words m d L)) : sProp 𝕄) := by
  have e : (bigSep Finset.univ (delivered m d L h q fr) : sProp 𝕄)
      = bigSep Finset.univ fun k : Fin 4 => bigSep Finset.univ fun j : Fin 128 => deliveredAt m d L h q fr k j := by
    rw [bigSep_univ_equiv finProdFinEquiv (delivered m d L h q fr), bigSep_univ_prod]
    refine bigSep_congr fun k _ => bigSep_congr fun j _ => delivered_eq m d L h q fr k j _ ?_
    show j.val + 128 * k.val = _
    omega
  have one : ∀ k : Fin 4, (bigSep Finset.univ fun j : Fin 128 => deliveredAt m d L h q fr k j)
      ⊢ (iprop(((blockM k).view.loc (thr d L) ↦[(blockM k).view.set]{fullShare} rowsGot m d L)
          ∗ (tSl.view.loc (thr d L) ↦[tSl.view.set]{gq q k} m (tLoc d))
          ∗ ((listM k).view.loc (thr d L) ↦[(listM k).view.set]{fullShare} words m d L)) : sProp 𝕄) := fun k => by
    refine (rowsDone_join (thr d L) tSl (blockM k) hG (listM k) rfl (gq q k) fullShare (m (tLoc d)) fr (words m d L) rows_pos (named m d L h k)).trans ?_
    rw [pointsTo_congr (gather_value m d L h k fr)]
  rw [e, scratch_blocks, scratch_lists, table_pieces]
  refine (bigSep_mono fun k _ => one k).trans ?_
  rw [bigSep_sep', bigSep_sep']
  exact Entails.refl _

/-- The batch of the four gathers, `j` rows issued and `u` units of credit taken. -/
abbrev Gathering (h : InRange m) (q : PosShare TreeShare) (fr : Buf (Elt F) ((thr d L).loc cc0_scratch1)) (j u : ℕ) : sProp 𝕄 :=
  Batch countersEmb (thr d L) (.dma cc0_scratch2.sem) (default : HIx 1) rowCredit (delivered m d L h q fr) j u

/-- What a gather needs of its own: its piece of the table's share, its block of the row scratch, its list. -/
abbrev gatherRes (q : PosShare TreeShare) (fr : Buf (Elt F) ((thr d L).loc cc0_scratch1)) (k : Fin 4) : sProp 𝕄 :=
  iprop((tSl.view.loc (thr d L) ↦[tSl.view.set]{gq q k} m (tLoc d))
    ∗ ((blockM k).view.loc (thr d L) ↦[(blockM k).view.set]{fullShare} fr)
    ∗ ((listM k).view.loc (thr d L) ↦[(listM k).view.set]{fullShare} words m d L))

/-- What the four gathers need, out of the table's share and the two scratch buffers. -/
theorem gatherRes_split (q : PosShare TreeShare) (fr : Buf (Elt F) ((thr d L).loc cc0_scratch1)) :
    (iprop((tSl.view.loc (thr d L) ↦[tSl.view.set]{q} m (tLoc d)) ∗ ((rM).view.loc (thr d L) ↦{fullShare} fr)
        ∗ ((sM).view.loc (thr d L) ↦{fullShare} words m d L)) : sProp 𝕄)
      = iprop(gatherRes m d L q fr 0 ∗ gatherRes m d L q fr 1 ∗ gatherRes m d L q fr 2 ∗ gatherRes m d L q fr 3) := by
  rw [table_pieces, scratch_blocks, scratch_lists, ← bigSep_sep', ← bigSep_sep',
    bigSep_univ_eq_bigSepL [0, 1, 2, 3] (by decide) (by decide) (fun k : Fin 4 => gatherRes m d L q fr k)]
  rfl

variable [FloatOps F]

/-- Gather `k` issued after the ones before it. -/
theorem issue_gather (h : InRange m) (q : PosShare TreeShare) (fr : Buf (Elt F) ((thr d L).loc cc0_scratch1)) (k : Fin 4) {α : Type} {Q : α → sProp 𝕄}
    {hsrc : tSl.view.WordExact} {he : EltTy.f32.bits = 32} {hsp : Space.hbm = .hbm ∨ Space.hbm = .shared} {hr : S1000000x16.StreamRows 0}
    {next : PUnit → Prog (TpuEff nD τ sig (Elt F) Λ₀ (thr d L).2) α} :
    iprop(gatherRes m d L q fr k ∗ Gathering m d L h q fr (128 * k.val) 0)
      ⊢ iprop((Gathering m d L h q fr (128 * k.val + 128) 0 -∗ wp frame (wpE (defs₀ (F := F)) 𝒱₀ (thr d L) none) Set.univ (next ⟨⟩) Q)
          -∗ wp frame (wpE (defs₀ (F := F)) 𝒱₀ (thr d L) none) Set.univ
              (SparseCore.enqueueIndirectGather (p := (thr d L).2) rfl tSl (blockM k) hG (listM k) rfl cc0_scratch2.sem hsrc he hsp hr >>= next) Q) := by
  iintro ⟨⟨Ht, Hb, Hl⟩, HB⟩
  iapply (wp_gatherRows countersEmb 𝒱₀ (thr d L) none (hg := hG) (default : HIx 1) rowCredit (row_credit k) rows_pos (list_inRange m d L h k)
    (show 128 * k.val + 128 ≤ 4 * 128 by omega) (Nat.zero_le _) (fun i => Entails.of_eq (delivered_eq m d L h q fr k i _ rfl).symm)) $$ [Ht Hb Hl HB]
  isplitl [Ht]; · iexact Ht
  isplitl [Hb]; · iexact Hb
  isplitl [Hl]; · iexact Hl
  iexact HB

/-- One of the first three waits: 128 rows' credit is taken and nothing is handed back. -/
theorem wait_gather (h : InRange m) (q : PosShare TreeShare) (fr : Buf (Elt F) ((thr d L).loc cc0_scratch1)) (k : Fin 4) {α : Type} {Q : α → sProp 𝕄}
    {hsrc : tSl.view.WordExact} {hdst : (blockM k).view.WordExact} {next : PUnit → Prog (TpuEff nD τ sig (Elt F) Λ₀ (thr d L).2) α}
    (u : ℕ) (hu : u + 128 * rowCredit ≤ rowCredit * (4 * 128)) {O : CellTallies nD τ sig (HIx 1)} {W : Waits sig (HIx 1)} :
    iprop(Gathering m d L h q fr (4 * 128) u ∗ owes (thr d L) O W ∗ Transfers.MayWaits (thr d L) (default : HIx 1) O)
      ⊢ iprop((iprop(Gathering m d L h q fr (4 * 128) (u + 128 * rowCredit) ∗ owes (thr d L) O (insert (SemLoc.dma cc0_scratch2.sem, default) W))
            -∗ wp frame (wpE (defs₀ (F := F)) 𝒱₀ (thr d L) none) Set.univ (next ⟨⟩) Q)
          -∗ wp frame (wpE (defs₀ (F := F)) 𝒱₀ (thr d L) none) Set.univ
              (SparseCore.waitIndirectGather (p := (thr d L).2) cc0_scratch2.sem tSl (blockM k) hsrc hdst >>= next) Q) := by
  change _ ⊢ iprop(_ -∗ wp frame (wpE (defs₀ (F := F)) 𝒱₀ (thr d L) none) Set.univ (.op (.waitDma2 cc0_scratch2.sem tSl (blockM k) hsrc hdst) next) Q)
  iintro ⟨HB, HO, Hmw⟩
  iapply (Transfers.wp_waitBatchMulO countersEmb 𝒱₀ (thr d L) none (default : HIx 1) 128 (block_credit k) hu) $$ [HB HO Hmw]
  isplitl [HB]; · iexact HB
  isplitl [HO]; · iexact HO
  iapply (Transfers.MayWaits.elim (SemLoc.dma cc0_scratch2.sem)) $$ Hmw

/-- The last wait: the row scratch filled, the share of the table and the index scratch back, the semaphore at zero. -/
theorem last_wait (h : InRange m) (q : PosShare TreeShare) (fr : Buf (Elt F) ((thr d L).loc cc0_scratch1)) (k : Fin 4) {α : Type} {Q : α → sProp 𝕄}
    {hsrc : tSl.view.WordExact} {hdst : (blockM k).view.WordExact} {next : PUnit → Prog (TpuEff nD τ sig (Elt F) Λ₀ (thr d L).2) α}
    (u : ℕ) (hu : u + 128 * rowCredit = rowCredit * (4 * 128)) {O : CellTallies nD τ sig (HIx 1)} {W : Waits sig (HIx 1)} :
    iprop(Gathering m d L h q fr (4 * 128) u ∗ owes (thr d L) O W ∗ Transfers.MayWaits (thr d L) (default : HIx 1) O)
      ⊢ iprop((iprop((((rM).view.loc (thr d L) ↦{fullShare} rowsGot m d L) ∗ (tSl.view.loc (thr d L) ↦[tSl.view.set]{q} m (tLoc d))
                ∗ ((sM).view.loc (thr d L) ↦{fullShare} words m d L))
              ∗ semVal (gatherCell d L) 0 ∗ owes (thr d L) O (insert (SemLoc.dma cc0_scratch2.sem, default) W))
            -∗ wp frame (wpE (defs₀ (F := F)) 𝒱₀ (thr d L) none) Set.univ (next ⟨⟩) Q)
          -∗ wp frame (wpE (defs₀ (F := F)) 𝒱₀ (thr d L) none) Set.univ
              (SparseCore.waitIndirectGather (p := (thr d L).2) cc0_scratch2.sem tSl (blockM k) hsrc hdst >>= next) Q) := by
  change _ ⊢ iprop(_ -∗ wp frame (wpE (defs₀ (F := F)) 𝒱₀ (thr d L) none) Set.univ (.op (.waitDma2 cc0_scratch2.sem tSl (blockM k) hsrc hdst) next) Q)
  iintro ⟨HB, HO, Hmw⟩ Hk
  iapply (Transfers.wp_waitBatchAllO countersEmb 𝒱₀ (thr d L) none (default : HIx 1) (block_credit k) rowCredit_pos hu) $$ [HB HO Hmw]
  · isplitl [HB]; · iexact HB
    isplitl [HO]; · iexact HO
    iapply (Transfers.MayWaits.elim (SemLoc.dma cc0_scratch2.sem)) $$ Hmw
  iintro ⟨Hall, Hsem, HO⟩
  iapply Hk
  isplitl [Hall]; · iapply (delivered_join m d L h q fr); iexact Hall
  isplitl [Hsem]; · iexact Hsem
  iexact HO

/-! ## The tile's run -/

omit [FloatOps F] in
/-- The row scratch copied out, the tile's rows of the output hold the result. -/
theorem stored (f : Buf (Elt F) (oLoc d)) :
    ∀ i ∈ (oSl L).view.set,
      (oSl L).view.writes (Elt F) f [⟨Rect.whole S512x16, (rM).view.read (Elt F) (rowsGot m d L)⟩] i = result m d i := by
  intro i hi
  obtain ⟨x, -, rfl⟩ := Finset.mem_map.mp hi
  exact View.read_writes_cons_hit (v := (oSl L).view) (f := f) (Rect.whole S512x16) ((rM).view.read (Elt F) (rowsGot m d L)) [] x x
    (Rect.emb_whole_apply S512x16 x)

set_option maxHeartbeats 4000000 in
/-- Tile `L` of device `d`, given its rows of the indices, a share of the table and its rows of the output, ends with
    its rows of the output holding the result, and everything else as it was. -/
theorem tile_body (hF : (K (F := F)).Facts) (h : InRange m) (O : CellTallies nD τ sig (HIx 1)) (W : Waits sig (HIx 1)) (hO : ∀ g, O g none = 0) :
    iprop(levAts (K (F := F)).L (K (F := F)).lev ∗ emp
        ∗ tileRes m (fun d => m (oLoc d)) d (tileOf L)
        ∗ scopedBufs (thr d L) ∗ scopedSems0 (thr d L) ∗ owes (thr d L) O W)
      ⊢ wp frame (wpE (defs₀ (F := F)) 𝒱₀ (thr d L) none) Set.univ
          (cc0__gather_kernel L tM (Memref.isWhole_whole _) iM (Memref.isWhole_whole _) oM (Memref.isWhole_whole _)
            sM (Memref.isWhole_whole _) rM (Memref.isWhole_whole _) cc0_scratch2 cc0_scoped0 cc0_scoped1)
          fun _ => iprop(tileRes m (result m) d (tileOf L)
            ∗ scopedBufs (thr d L) ∗ scopedSems0 (thr d L)
            ∗ ∃ W', ⌜∀ p ∈ W', p ∈ W ∨ p.2 = none⌝ ∗ owes (thr d L) O W') := by
  rw [cc0__gather_kernel_eq_skeleton]; unfold cc0__gather_kernel_skel
  rw [k0_part1_eq_skeleton]; unfold k0_part1_skel
  rw [(K (F := F)).scopedBufs_V hF d (cV L) (jV L), SparseCore.Cfg.scopedSems0_V (Val := Elt F) d (cV L) (jV L), ownSems0_tile, ownBufs_tile]
  iintro ⟨#Hlv, -, ⟨Hi, Ht, Ho⟩, ⟨⟨%fs, Hs⟩, ⟨%fr, Hr⟩, Hbufs⟩, ⟨HsemF, HsemG, HsemS, Hsems⟩, HO⟩
  ihave Hmw := (show levAts (K (F := F)).L (K (F := F)).lev ⊢ Transfers.MayWaits (thr d L) (default : HIx 1) O from
    (K (F := F)).mayWaits_none (thr := thr d L) hO) $$ Hlv
  ihave Hi' := (Entails.of_eq (pts_iSl d L _).symm) $$ Hi
  ihave Ho' := (Entails.of_eq (pts_oSl d L _).symm) $$ Ho
  ihave Hs' := (Entails.of_eq (show ((thr d L).loc cc0_scratch0 ↦{fullShare} fs : sProp 𝕄) = (sM).view.loc (thr d L) ↦{fullShare} fs from rfl)) $$ Hs
  ihave Hr' := (Entails.of_eq (show ((thr d L).loc cc0_scratch1 ↦{fullShare} fr : sProp 𝕄) = (rM).view.loc (thr d L) ↦{fullShare} fr from rfl)) $$ Hr
  sl_exec
  ihave Hs1 := (Entails.of_eq (show ((sM).view.loc (thr d L) ↦{fullShare} View.write (Elt F) (sM).view fs (tile_body.sl.dma0 m d L) Finset.univ : sProp 𝕄)
      = (sM).view.loc (thr d L) ↦{fullShare} words m d L by rw [View.write_whole_univ]; rfl)) $$ Hs'
  ihave Hts := (pointsTo_split_subset (q := tq (tileOf L)) (f := m (tLoc d)) (S := Finset.univ) (Finset.subset_univ tSl.view.set)).1 $$ Ht
  icases Hts with ⟨Hts, Htr⟩
  imod (Transfers.batch_alloc' countersEmb (thr d L) (default : HIx 1) rowCredit (delivered m d L h (tq (tileOf L)) fr) (E := Set.univ)) $$ HsemG with HB
  ihave Hg := (Entails.of_eq (gatherRes_split m d L (tq (tileOf L)) fr)) $$ [Hts Hr' Hs1]
  · isplitl [Hts]; · iexact Hts
    isplitl [Hr']; · iexact Hr'
    iexact Hs1
  icases Hg with ⟨Hg0, Hg1, Hg2, Hg3⟩
  iapply (issue_gather m d L h (tq (tileOf L)) fr 0) $$ [Hg0 HB]
  · isplitl [Hg0]; · iexact Hg0
    iexact HB
  iintro HB
  sl_exec
  iapply (issue_gather m d L h (tq (tileOf L)) fr 1) $$ [Hg1 HB]
  · isplitl [Hg1]; · iexact Hg1
    iexact HB
  iintro HB
  sl_exec
  iapply (issue_gather m d L h (tq (tileOf L)) fr 2) $$ [Hg2 HB]
  · isplitl [Hg2]; · iexact Hg2
    iexact HB
  iintro HB
  sl_exec
  iapply (issue_gather m d L h (tq (tileOf L)) fr 3) $$ [Hg3 HB]
  · isplitl [Hg3]; · iexact Hg3
    iexact HB
  iintro HB
  iapply (wait_gather m d L h (tq (tileOf L)) fr 0 0 (by omega)) $$ [HB HO]
  · isplitl [HB]; · iexact HB
    isplitl [HO]; · iexact HO
    iexact Hmw
  iintro ⟨HB, HO⟩
  iapply (wait_gather m d L h (tq (tileOf L)) fr 1 (0 + 128 * rowCredit) (by omega)) $$ [HB HO]
  · isplitl [HB]; · iexact HB
    isplitl [HO]; · iexact HO
    iexact Hmw
  iintro ⟨HB, HO⟩
  iapply (wait_gather m d L h (tq (tileOf L)) fr 2 (0 + 128 * rowCredit + 128 * rowCredit) (by omega)) $$ [HB HO]
  · isplitl [HB]; · iexact HB
    isplitl [HO]; · iexact HO
    iexact Hmw
  iintro ⟨HB, HO⟩
  iapply (last_wait m d L h (tq (tileOf L)) fr 3 (0 + 128 * rowCredit + 128 * rowCredit + 128 * rowCredit) (by omega)) $$ [HB HO]
  · isplitl [HB]; · iexact HB
    isplitl [HO]; · iexact HO
    iexact Hmw
  iintro ⟨⟨Hr2, Hts, Hs2⟩, HsemG, HO⟩
  ihave Ht := (pointsTo_split_subset (q := tq (tileOf L)) (f := m (tLoc d)) (S := Finset.univ) (Finset.subset_univ tSl.view.set)).2 $$ [Hts Htr]
  · isplitl [Hts] <;> iassumption
  sl_exec
  sl_step
  isplitl [Hi' Ht Ho']
  · isplitl [Hi']; · iapply (Entails.of_eq (pts_iSl d L _)); iexact Hi'
    isplitl [Ht]; · iexact Ht
    iapply (Entails.of_eq (pts_oSl d L (result m d)))
    iapply (Entails.of_eq (pointsTo_congr (stored m d L (m (oLoc d)))))
    iexact Ho'
  isplitl [Hs2 Hr2 Hbufs]
  · isplitl [Hs2]; · iexists _; iexact Hs2
    isplitl [Hr2]; · iexists _; iexact Hr2
    iexact Hbufs
  isplitl [HsemF HsemG HsemS Hsems]
  · isplitl [HsemF]; · iexact HsemF
    isplitl [HsemG]; · iexact HsemG
    isplitl [HsemS]; · iexact HsemS
    iexact Hsems
  iexists _; isplitr
  swap; · iexact HO
  ipureintro; intro p hp
  simp only [Finset.mem_insert] at hp
  rcases hp with rfl | rfl | rfl | rfl | rfl | rfl | hp
  · exact .inr rfl
  · exact .inr rfl
  · exact .inr rfl
  · exact .inr rfl
  · exact .inr rfl
  · exact .inr rfl
  · exact .inl hp

/-! ## The tile's obligation -/

def coordsOf (c : Fin (grid0.bound 0)) (s : Fin (grid0.bound 1)) : grid0.Coords :=
  fun | 0 => c | 1 => s | ⟨_ + 2, h⟩ => absurd h (Nat.not_lt.2 (Nat.le_add_left _ _))

/-- What the program's table of bodies holds for a vector subcore. -/
theorem defs₀_vector (c : Fin τ.nSC) (s : Fin τ.nSub) :
    defs₀ (F := F) (.scVector c s) 0 ()
      = SparseCore.onTile hcore0 hsub0 (fun c s => cc0__gather_kernel (coordsOf c s)
          tM (Memref.isWhole_whole _) iM (Memref.isWhole_whole _) oM (Memref.isWhole_whole _)
          sM (Memref.isWhole_whole _) rM (Memref.isWhole_whole _) cc0_scratch2 cc0_scoped0 cc0_scoped1) ⟨⟩ c s := rfl

/-- The tile's waits are all at the index that no launch uses. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's run meets what the launch asks of it. -/
theorem tileObl (hF : (K (F := F)).Facts) (h : InRange m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body m d (coordsOf ⟨_, hci.1⟩ ⟨_, hci.2⟩) hF h O W hO).trans (wp_mono frame _ _ fun _ => obl_post)

end Cert.Proof.Tile

end
-- ==== Proof.Launch.lean ====
/-
  THE WHOLE PROGRAM'S RUN.

  On the TensorCore the host reads the index list as 128 rows of 128, then starts the SparseCores on their one call and
  waits for them. The call takes the table, the reshaped indices and the output; these are cut between the two
  SparseCores (`call_takes`), each SparseCore hands its part to its sixteen tiles (`vecSplit`), each tile runs as
  `Tile.tile_body` says, and on the way back the parts make the arrays whole again, the output now holding the result
  (`call_brings`). The run (`run_main`): the program ends on every device, the table and the index list are unchanged,
  the output holds the rows of the table that the index list names, and every semaphore reads zero.
-/
module

public import proofs.«01_k».proof.Proof.Tile
public import Idealize.ShloMosaic.Lib.SparseCore.Quiescent
public import Idealize.ShloMosaic.Lib.StableHlo.Run

@[expose] public section

noncomputable section

namespace Cert.Proof.Launch

open Cert.KernelIdeal Cert.KernelIdeal.Gen
open Cert.Proof.Values Cert.Proof.Common

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within)

variable {F : FTy → Type}

local notation "𝕄" => MT nD τ sig (HIx 1) (Elt F) ℕ UU ℕ

variable (m : (ℓ : Loc nD τ sig) → Buf (Elt F) ℓ) (ρ : Dev nD → PrngReg)

/-! ## From the call to its SparseCores, and from a SparseCore to its tiles -/

/-- What the call hands its SparseCores is the three arrays, the output as the program found it. -/
theorem call_takes (d : Dev nD) :
    (bigSep Finset.univ fun c : Fin ((K (F := F)).nCore 0) => (P m).st 0 d c) = iprop(iPts m d ∗ tPts m d ∗ oPts d (m (oLoc d))) :=
  (bigSep_congr fun c _ => congrArg (coreRes m (fun d => m (oLoc d)) d) (Fin.ext rfl)).trans (arrays_tiles m (fun d => m (oLoc d)) d).symm

/-- What they bring back is the three arrays, the output holding the result. -/
theorem call_brings (d : Dev nD) :
    (bigSep Finset.univ fun c : Fin ((K (F := F)).nCore 0) => (P m).dn 0 d c) = iprop(iPts m d ∗ tPts m d ∗ oPts d (result m d)) :=
  (bigSep_congr fun c _ => congrArg (coreRes m (result m) d) (Fin.ext rfl)).trans (arrays_tiles m (result m) d).symm

/-- A SparseCore's part is its sixteen tiles' parts, both ways. -/
theorem vecSplit : (K (F := F)).VecSplit' (P m) 0 := by
  intro d c
  show coreRes m (fun d => m (oLoc d)) d (Fin.cast nCore_zero c) ⊢ |={Set.univ}=> iprop(
    coreRes m (fun d => m (oLoc d)) d (Fin.cast nCore_zero c)
      ∗ (coreRes m (result m) d (Fin.cast nCore_zero c) -∗ coreRes m (result m) d (Fin.cast nCore_zero c)))
  iintro H; imodintro
  isplitl [H]; · iexact H
  iintro H; iexact H

/-! ## The launch's ghost state -/

/-- The handshakes' rounds at their start; no transfer counted yet. -/
def u₀ : UU := (initOf (K (F := F)).hsCells (K (F := F)).hsToks, 1)

/-- Nothing at all is nothing for each of many. -/
theorem nothing {I : Type} (s : Finset I) : (iprop(emp) : sProp 𝕄) ⊢ bigSep s fun _ => iprop(emp) :=
  Entails.of_eq (bigSep_emp_const s).symm

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · iapply (nothing Finset.univ); iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1)]
  iapply (nothing Finset.univ); iempintro

/-! ## The host's part -/

abbrev tRef : DevRef τ sig := Proc.devRef .tc (main_arg0 : Ref sig .tc)
abbrev aRef : DevRef τ sig := Proc.devRef .tc (main_arg1 : Ref sig .tc)
abbrev iRef : DevRef τ sig := Proc.devRef .tc (main_v0 : Ref sig .tc)
abbrev oRef : DevRef τ sig := Proc.devRef .tc (main_v1 : Ref sig .tc)
/-- The host's four arrays. -/
abbrev arrays : Finset (DevRef τ sig) := {tRef, aRef, iRef, oRef}
/-- The host's one operation: the index list read as 128 rows of 128. -/
abbrev toRows : HloOp τ sig (Elt F) := StableHlo.reshape main_arg1 main_v0 (rfl : (.i32 : EltTy) = .i32) shapeCasts_S16384_S128x128

theorem held_arrays (d : Dev nD) (W : Valuation τ sig (Elt F)) :
    (held (T d) arrays W : sProp 𝕄)
      = iprop((tLoc d ↦{fullShare} W tRef) ∗ (aLoc d ↦{fullShare} W aRef) ∗ (iLoc d ↦{fullShare} W iRef) ∗ oLoc d ↦{fullShare} W oRef) := by
  unfold held arrays
  rw [SparseCore.bigSep_insert' (by decide), SparseCore.bigSep_insert' (by decide), SparseCore.bigSep_insert' (by decide), bigSep_singleton]

/-- The arrays as the program finds them. -/
def V0 (d : Dev nD) : Valuation τ sig (Elt F) := fun b => m (d, b)

theorem unscoped_held (d : Dev nD) : (unscopedBufs d (fun b => m ((SparseCore.T d).loc b)) : sProp 𝕄) = held (T d) arrays (V0 m d) := by
  rw [held_arrays]
  unfold unscopedBufs
  rw [show (Finset.univ.filter fun b : Ref sig .tc => ¬ b.isScoped) = {main_arg0, main_arg1, main_v0, main_v1} by decide,
    SparseCore.bigSep_insert' (by decide), SparseCore.bigSep_insert' (by decide), SparseCore.bigSep_insert' (by decide), bigSep_singleton]
  rfl

theorem toRows_bufs : (toRows (F := F)).bufs ⊆ arrays := show ({aRef, iRef} : Finset (DevRef τ sig)) ⊆ arrays by decide

/-- After the reshape: the index list's rows in their array, the rest as found. -/
theorem held_rows (d : Dev nD) :
    (held (T d) arrays ((toRows (F := F)).result (V0 m d)) : sProp 𝕄)
      = iprop(tPts m d ∗ (aLoc d ↦{fullShare} m (aLoc d)) ∗ iPts m d ∗ oPts d (m (oLoc d))) := by
  rw [held_arrays, (toRows (F := F)).result_of_not_mem (V0 m d) (b := tRef) (show tRef ∉ ({iRef} : Finset (DevRef τ sig)) by decide),
    (toRows (F := F)).result_of_not_mem (V0 m d) (b := aRef) (show aRef ∉ ({iRef} : Finset (DevRef τ sig)) by decide),
    (toRows (F := F)).result_of_not_mem (V0 m d) (b := oRef) (show oRef ∉ ({iRef} : Finset (DevRef τ sig)) by decide),
    show (toRows (F := F)).result (V0 m d) iRef = ids m d from StableHlo.reshape_result _ _ _ _ _ _ _]
  rfl

/-- What the host ends with, of which the final memory is read. -/
abbrev FIN (d : Dev nD) : sProp 𝕄 := iprop(tPts m d ∗ (aLoc d ↦{fullShare} m (aLoc d)) ∗ oPts d (result m d))

variable [FloatOps F]

/-- The host on device `d`: the reshape over its four arrays, then the call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := toRows) (S := arrays) toRows_bufs (V := V0 m d)) $$ [Hb Hheld]
  · isplitl [Hb] <;> iassumption
  iintro ⟨Hb, Hheld⟩
  rw [wp_ret]; imodintro
  ihave Hh := (Entails.of_eq (held_rows (F := F) m d)) $$ Hheld
  icases Hh with ⟨Ht, Ha, Hi, Ho⟩
  iapply ((K (F := F)).wp_run (D (F := F)) 𝒱 (EH := EH) (P := P m) κ d 0) $$ [Hst Hi Ht Ho Hb Hts Ha]
  isplitr; · iexact Hctx
  isplitl [Hst]; · iexact Hst
  isplitl [Hi Ht Ho]
  · rw [call_takes]
    isplitl [Hi]; · iexact Hi
    isplitl [Ht]; · iexact Ht
    iexact Ho
  iintro ⟨Hst, Hdn⟩
  ihave Hdn' := (Entails.of_eq (call_brings m d)) $$ Hdn
  icases Hdn' with ⟨-, Ht, Ho⟩
  imodintro
  isplitl [Hst]; · iexact Hst
  isplitr [Hb Hts]
  · isplitl [Ht]; · iexact Ht
    isplitl [Ha]; · iexact Ha
    iexact Ho
  isplitl [Hb] <;> iassumption

/-! ## The run -/

/-- What device `d`'s memory ends as: the table and the index list unchanged, the output the result. -/
def ended (d : Dev nD) (mem : (ℓ : Loc nD τ sig) → Buf (Elt F) ℓ) : Prop :=
  mem (oLoc d) = result m d ∧ mem (tLoc d) = m (tLoc d) ∧ mem (aLoc d) = m (aLoc d)

omit [FloatOps F] in
/-- A whole array owned at `f` is read as `f` in the machine's memory. -/
theorem read_whole (s' : Phys nD τ sig (Elt F)) (ℓ : Loc nD τ sig) (f : Buf (Elt F) ℓ) :
    (iprop(SI s' ∗ ℓ ↦{fullShare} f) : sProp 𝕄) ⊢ iprop(⌜s'.mem.mem ℓ = f⌝ ∗ SI s') := by
  iintro H
  ihave H := (persistent_entails_right (SI_pointsTo_agree (st := s') (ℓ := ℓ) (I := Finset.univ) (q := fullShare) (f := f))) $$ H
  icases H with ⟨%h, HSI, -⟩
  isplitr
  · ipureintro; exact funext fun i => h i (Finset.mem_univ i)
  iexact HSI

omit [FloatOps F] in
theorem hfin (d : Dev nD) (s' : Phys nD τ sig (Elt F)) : iprop(FIN m d ∗ SI s') ⊢ (⌜ended m d s'.mem.mem⌝ : sProp 𝕄) := by
  iintro ⟨⟨Ht, Ha, Ho⟩, HSI⟩
  ihave H := (read_whole s' (tLoc d) (m (tLoc d))) $$ [HSI Ht]
  · isplitl [HSI] <;> iassumption
  icases H with ⟨%ht, HSI⟩
  ihave H := (read_whole s' (aLoc d) (m (aLoc d))) $$ [HSI Ha]
  · isplitl [HSI] <;> iassumption
  icases H with ⟨%ha, HSI⟩
  ihave H := (read_whole s' (oLoc d) (result m d)) $$ [HSI Ho]
  · isplitl [HSI] <;> iassumption
  icases H with ⟨%ho, HSI⟩
  ipureintro; exact ⟨ho, ht, ha⟩

/-- The program runs from any memory whose indices are rows of the table, and ends with the output holding those rows. -/
theorem run_main [∀ e, Nonempty (Elt F e)] (h : InRange m) :
    θ_run (Cert.KernelIdeal.defs (F := F)) (Cert.KernelIdeal.threads (F := F)) ⟨m, fun _ => 0, ρ⟩
      (fun r => (∀ d : Dev nD, ended m d r.2.mem) ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => Tile.tileObl m facts h)
    (fun q _ => match q with | 0 => SparseCore.Cfg.VecSplit.of_plain (vecSplit m))
    m ρ main (fun _ => iprop(emp)) (FIN m) (u₀ (F := F)) (sep_elim_left.trans (hu₀ m)) (hmain m ρ) (fun d s' => ended m d s'.mem.mem) (hfin m)
    (fun r => (∀ d : Dev nD, ended m d r.2.mem) ∧ r.2.sem = fun _ => 0) (fun _ h hz => ⟨h, hz⟩)

end Cert.Proof.Launch

end
-- ==== Proof.Precondition.lean ====
/-
  THE PRECONDITION, READ.

  The precondition is computed: every index is compared with zero and with the table's height, and the answers are
  reduced to one bit by `and`. That bit is one only if every index, read as an unsigned number, is below the height —
  a negative index fails the first comparison.
-/
module

public import proofs.«01_k».proof.Pre_in_range
public import proofs.«01_k».proof.Proof.Gen.Pre_in_range
public import Idealize.ShloMosaic.Lib.ReduceAll

@[expose] public section

noncomputable section

namespace Cert.Proof.Precondition

open Idealize.ShloMosaic
open Cert.Pre_in_range

variable {F : FTy → Type} [FloatOps F]

/-- A comparison's answer, as one bit, is one exactly when the comparison holds. -/
theorem ofBool_one {p : Bool} : BitVec.ofBool p = 1#1 ↔ p = true := by cases p <;> decide

/-- A word that is at least zero and below the height, both signed, is below it unsigned. -/
theorem word_lt {v : BitVec 32} (h0 : IntOp.cmpi .sge v 0#32 = 1#1) (h1 : IntOp.cmpi .slt v 1000000#32 = 1#1) :
    v.toNat < 1000000 := by
  have h0' : (0#32).sle v = true := ofBool_one.1 h0
  have h1' : v.slt 1000000#32 = true := ofBool_one.1 h1
  rw [BitVec.sle_eq_decide, decide_eq_true_eq, BitVec.toInt_eq_toNat_cond, BitVec.toInt_eq_toNat_cond] at h0'
  rw [BitVec.slt_eq_decide, decide_eq_true_eq, BitVec.toInt_eq_toNat_cond, BitVec.toInt_eq_toNat_cond] at h1'
  simp only [BitVec.toNat_ofNat, Nat.reducePow, Nat.reduceMod] at h0' h1'
  have := v.isLt
  omega

/-- Where the precondition computes one, every index is below the table's height. -/
theorem below (tab : FVec F S1000000x16 .f32) (ids : IVec S16384 32) (h : fn tab ids = fun _ => 1#1) (j : S16384.Idx) :
    (ids j).toNat < 1000000 := by
  have hall := congrFun h (Shape.Idx.first Gen.h_S_)
  haveI : Subsingleton S_.Idx := ⟨fun a b => funext fun d => d.elim0⟩
  have hj : IntOp.andi (IntOp.cmpi .sge (ids j) 0#32) (IntOp.cmpi .slt (ids j) 1000000#32) = 1#1 :=
    Host.reduce_andi_all _ _ _ _ _ hall j
  obtain ⟨h0, h1⟩ := IntOp.andi_eq_one.1 hj
  exact word_lt h0 h1

end Cert.Proof.Precondition

end
-- ==== Proof.Reference.lean ====
/-
  WHAT THE REFERENCE COMPUTES, and that it is the gathered rows.

  The reference takes rows of the table the way an array library does for any signed index: a negative index is raised
  by the table's height; the rows are gathered at the raised indices, each held between the first row and the last; and
  a row whose raised index lay outside the table is overwritten by not-a-number. `taken` is this computation as one term
  of the two arguments. Of an index already inside the table none of the three corrections acts, so that on such indices
  `taken` is `gathered` (`taken_eq`).
-/
module

public import proofs.«01_k».proof.ReferenceIdeal
public import proofs.«01_k».proof.Proof.Gen.ReferenceIdeal
public import proofs.«01_k».proof.Proof.Values
public import Idealize.ShloMosaic.Lib.ReduceAll
public import Idealize.ShloMosaic.Lib.Pipeline.Value
public import Idealize.ShloMosaic.PureOps.Ideal

@[expose] public section

noncomputable section

namespace Cert.Proof.Reference

open Idealize.ShloMosaic
open Idealize.ShloMosaic.ValueIdx (ix1 ix2 eq_ix1 eq_ix2)
open Cert.ReferenceIdeal Cert.ReferenceIdeal.Gen
open Cert.Proof.Values

/-! ## The gather -/

/-- The dimension numbers of the gather that takes whole rows of a table at a column of start indices. -/
abbrev rowDims : GatherDims S1000000x16 S16384x1 S16384x16 := gather_S1000000x16_S16384x1_S16384x16_1_0_n_n_0_1_116

/-- Result entry `y` takes its start index from entry `(y 0, 0)` of the column. -/
theorem column_index (y : S16384x16.Idx) (c : Fin rowDims.startIndexMap.length) :
    rowDims.siIdx y c = ix2 (y 0) (0 : Fin 1) := by
  funext b
  match b with
  | ⟨0, _⟩ => rfl
  | ⟨1, _⟩ => exact Subsingleton.elim (α := Fin 1) _ _

/-- Entry `y` of the gather is entry `y 1` of the row that the start index names, held inside the table. -/
theorem gather_at {α : Type} (tab : S1000000x16.Idx → α) (col : IVec S16384x1 32) (y : S16384x16.Idx) :
    Host.gather rowDims tab col y
      = tab (ix2 ⟨min (col (ix2 (y 0) (0 : Fin 1))).toInt.toNat 999999, by omega⟩ (y 1)) := by
  unfold Host.gather
  refine congrArg tab (funext fun a => Fin.ext ?_)
  match a with
  | ⟨0, _⟩ =>
    show rowDims.start y col 0 + rowDims.batchCoord y 0 + rowDims.offCoord y 0 = _
    rw [rowDims.batchCoord_eq_zero y 0 List.not_mem_nil,
      rowDims.offCoord_eq_zero y 0 (fun h => ((rowDims.mem_sKept 0).1 h).1 (List.mem_singleton.2 rfl))]
    unfold GatherDims.start
    rw [dif_pos (show (0 : Fin 2) ∈ rowDims.startIndexMap from List.mem_singleton.2 rfl), column_index]
    rfl
  | ⟨1, _⟩ =>
    show rowDims.start y col 1 + rowDims.batchCoord y 1 + rowDims.offCoord y 1 = (y 1).val
    rw [rowDims.batchCoord_eq_zero y 1 List.not_mem_nil]
    have hs : rowDims.start y col 1 = 0 := by
      unfold GatherDims.start
      exact dif_neg (show (1 : Fin 2) ∉ ([0] : List (Fin 2)) by decide)
    rw [hs, Nat.add_zero, Nat.zero_add]
    rfl

/-! ## The computation -/

/-- The indices with the negative ones raised by the table's height. -/
def raised (ids : IVec S16384 32) : IVec S16384 32 :=
  select (cmpi .slt ids (broadcastInDim S16384 ![] bcast_S_S16384 (constantI S_ 32 0#32)))
    (addi ids (broadcastInDim S16384 ![] bcast_S_S16384 (constantI S_ 32 1000000#32))) ids

/-- They as a column. -/
def column (ids : IVec S16384 32) : IVec S16384x1 32 := broadcastInDim S16384x1 ![0] bcast_S16384_S16384x1_0 (raised ids)

/-- Which entries of the column are rows of the table. -/
def inside (ids : IVec S16384 32) : IVec S16384x1 1 :=
  andi (cmpi .sge (column ids) (broadcastInDim S16384x1 ![] bcast_S_S16384x1 (constantI S_ 32 0#32)))
    (cmpi .sle (column ids) (broadcastInDim S16384x1 ![0, 1] bcast_S1x1_S16384x1_0_1
      (broadcastInDim S1x1 ![1] bcast_S1_S1x1_1 (constantI S1 32 999999#32))))

/-- The reference's result as one term of its two arguments. -/
def taken (tab : FVec Ideal S1000000x16 .f32) (ids : IVec S16384 32) : FVec Ideal S16384x16 .f32 :=
  select
    (broadcastInDim S16384x16 ![0] bcast_S16384_S16384x16_0
      (Host.reduce IntOp.andi (inside ids) (constantI S_ 1 1#1) reducesTo_S16384x1_S16384_d1 h_S_))
    (Host.gather rowDims tab (column ids))
    (broadcastInDim S16384x16 ![] bcast_S_S16384x16 (constant S_ .f32 0x7FC00000#32))

/-! ## On indices inside the table -/

/-- A word below the height reads the same signed as unsigned. -/
theorem toInt_of_lt {w : BitVec 32} (h : w.toNat < 1000000) : w.toInt = (w.toNat : Int) := by
  rw [BitVec.toInt_eq_toNat_cond, if_pos (by omega)]

variable {ids : IVec S16384 32}

/-- An index inside the table is not raised. -/
theorem raised_eq (h : ∀ j, (ids j).toNat < 1000000) : raised ids = ids := by
  funext j
  show (if IntOp.cmpi .slt (ids j) 0#32 = 1 then IntOp.addi (ids j) 1000000#32 else ids j) = ids j
  refine if_neg fun hc => ?_
  have hn : (ids j).slt 0#32 = false := by
    rw [BitVec.slt_eq_decide, decide_eq_false_iff_not, toInt_of_lt (h j)]
    simp
  have hc' : BitVec.ofBool ((ids j).slt 0#32) = 1#1 := hc
  rw [hn] at hc'
  exact absurd hc' (by decide)

/-- Entry `(k, 0)` of the column is index `k`. -/
theorem column_at (h : ∀ j, (ids j).toNat < 1000000) (i : S16384x1.Idx) : column ids i = ids (ix1 (i 0)) := by
  unfold column
  rw [raised_eq h]
  exact broadcastInDim_apply _ _ _ _ _ fun a => by
    match a with
    | ⟨0, _⟩ => rfl

/-- Every entry of the column is a row of the table. -/
theorem inside_at (h : ∀ j, (ids j).toNat < 1000000) (i : S16384x1.Idx) : inside ids i = 1#1 := by
  show IntOp.andi (IntOp.cmpi .sge (column ids i) 0#32) (IntOp.cmpi .sle (column ids i) 999999#32) = 1#1
  rw [column_at h]
  have hlt := h (ix1 (i 0))
  refine IntOp.andi_eq_one.2 ⟨?_, ?_⟩
  · show BitVec.ofBool ((0#32).sle (ids (ix1 (i 0)))) = 1#1
    rw [BitVec.sle_eq_decide, toInt_of_lt hlt, decide_eq_true (by simp)]
    rfl
  · show BitVec.ofBool ((ids (ix1 (i 0))).sle 999999#32) = 1#1
    rw [BitVec.sle_eq_decide, toInt_of_lt hlt, decide_eq_true (by rw [toInt_of_lt (by decide)]; simp; omega)]
    rfl

/-- On indices inside the table the reference's result is the rows they name. -/
theorem taken_eq (tab : FVec Ideal S1000000x16 .f32) (h : ∀ j, (ids j).toNat < 1000000) :
    taken tab ids = gathered tab ids := by
  funext y
  have hmask : Host.reduce IntOp.andi (inside ids) (constantI S_ 1 1#1) reducesTo_S16384x1_S16384_d1 h_S_ = fun _ => 1#1 :=
    funext fun j => Host.reduce_andi_one _ _ _ _ _ rfl (inside_at h)
  have hrow : Host.gather rowDims tab (column ids) y = gathered tab ids y := by
    rw [gather_at]
    refine congrArg tab (congrArg (fun r => ix2 r (y 1)) (Fin.ext ?_))
    have hlt := h (ix1 (y 0))
    show min (column ids (ix2 (y 0) (0 : Fin 1))).toInt.toNat 999999 = (rowOfWord (ids (ix1 (y 0)))).val
    have hcol : column ids (ix2 (y 0) (0 : Fin 1)) = ids (ix1 (y 0)) := column_at h _
    rw [hcol, rowOfWord_val hlt, toInt_of_lt hlt, Int.toNat_natCast]
    omega
  unfold taken
  rw [hmask]
  show Scalar.select 1#1 (Host.gather rowDims tab (column ids) y)
    (broadcastInDim S16384x16 ![] bcast_S_S16384x16 (constant S_ .f32 0x7FC00000#32) y) = gathered tab ids y
  unfold Scalar.select
  rw [if_pos (show (1#1 : BitVec 1) = 1 from rfl)]
  exact hrow

end Cert.Proof.Reference

end
-- ==== Proof.lean ====
/-
  THE CLAIM, ASSEMBLED.

  The kernel gathers rows of a table: entry `(k, j)` of its output is entry `(ids k, j)` of the table. `Launch.run_main`
  is the whole program's run, over any float format; the two frames of the kernel and the kernel's half of the value
  claim are read off it. `Reference.taken_eq` says that the reference, on indices inside the table, computes the same
  rows. `Precondition.below` reads "inside the table" off the precondition.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Pre_in_range
public import proofs.«01_k».proof.Proof.Launch
public import proofs.«01_k».proof.Proof.Precondition
public import proofs.«01_k».proof.Proof.Reference
public import Idealize.ShloMosaic.Adequacy
public import Idealize.ShloMosaic.Init
public import Idealize.ShloMosaic.Lib.Claim
public import Idealize.ShloMosaic.Lib.Tactic
public import Idealize.ShloMosaic.Lib.Quiescent

@[expose] public section

noncomputable section

namespace Cert.Proof

open Idealize.ShloMosaic Idealize.SL.Sem
open Cert.Proof.Common (InRange result)

/-- The kernel as printed terminates without fault, keeps its arguments, and leaves every semaphore at zero. Its text is
    the idealized kernel's, so this is the same run at the bit-exact floats. -/
theorem frame_kernel : Cert.quiescent_Kernel := fun m g hpre =>
  (θ_run (Cert.KernelIdeal.defs (F := Bits)) _ _).mono
    (fun _ h => ⟨fun c => ⟨(h.1 c).2.1, (h.1 c).2.2⟩, h.2⟩)
    (Launch.run_main (F := Bits) m g fun d j => Precondition.below _ _ (hpre d) j)

/-- The idealized kernel terminates without fault, keeps its arguments, and leaves every semaphore at zero. -/
theorem frame_kernelIdeal : Cert.quiescent_KernelIdeal := fun m g hpre =>
  (θ_run (Cert.KernelIdeal.defs (F := Ideal)) _ _).mono
    (fun _ h => ⟨fun c => ⟨(h.1 c).2.1, (h.1 c).2.2⟩, h.2⟩)
    (Launch.run_main (F := Ideal) m g fun d j => Precondition.below _ _ (hpre d) j)

/-- The reference's run: it ends, its output holds `taken` of its arguments, and its arguments are unchanged. -/
theorem run_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => ∀ c : Dev Cert.ReferenceIdeal.nD,
        r.2.mem ((c.tc : Thread Cert.ReferenceIdeal.nD Cert.ReferenceIdeal.τ).loc Cert.ReferenceIdeal.main_v0)
            = Reference.taken (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
          ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)) := by
  hlo_run
  simp only [StableHlo.TRef.ofBuf_toBuf]
  simp only [StableHlo.TRef.ofBuf, StableHlo.TRef.toBuf, cast_eq]
  unfold Reference.taken Reference.inside Reference.column Reference.raised
  rfl

/-- The reference terminates without fault, keeps its arguments, and leaves every semaphore at zero (it has none), on
    any arguments. -/
theorem frame_referenceIdeal : Cert.quiescent_ReferenceIdeal := fun m g _ =>
  (θ_run (Cert.ReferenceIdeal.defs (F := Ideal)) _ _).mono
    (fun r h => ⟨fun c => (h c).2, sem_eq_zero_of_no_sems (by decide) r.2⟩) (run_reference m g)

/-- On memories that hold the same table and the same indices, the indices inside the table, kernel and reference end
    with the same output: the rows of the table that the indices name. -/
theorem same_rows : Cert.algebraic_KernelIdeal_ReferenceIdeal := by
  intro m g m' g' hpre hagree
  have hin : InRange m := fun d j => Precondition.below _ _ (hpre d) j
  refine ⟨fun c => result m c,
    (θ_run (Cert.KernelIdeal.defs (F := Ideal)) _ _).mono (fun _ h => h.1) (Launch.run_main (F := Ideal) m g hin),
    (θ_run (Cert.ReferenceIdeal.defs (F := Ideal)) _ _).mono (fun r h c => ⟨(h c).1.trans ?_, (h c).2⟩) (run_reference m' g')⟩
  rw [(hagree c).1, (hagree c).2]
  exact Reference.taken_eq _ (hin c)

/-- Everything claimed of the kernel and the reference. -/
theorem claim : Cert.Claim := ⟨Cert.Kernel.Gen.facts, Cert.KernelIdeal.Gen.facts, Cert.ReferenceIdeal.Gen.facts, Cert.Pre_in_range.Gen.facts,
  frame_kernel, frame_kernelIdeal, frame_referenceIdeal, fun m g _ => frame_referenceIdeal m g trivial, trivial, same_rows⟩

end Cert.Proof

end
